-- ==== Defs.lean ====
def Pre_Kernel [hPre_table_in_range : Cert.Pre_table_in_range.Facts] (m : (ℓ : Loc Cert.Kernel.nD Cert.Kernel.τ Cert.Kernel.sig) → Buf (Elt Bits) ℓ) : Prop :=
  ∀ c : Dev Cert.Kernel.nD,
    (Cert.Pre_table_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Reference [hPre_table_in_range : Cert.Pre_table_in_range.Facts] (m : (ℓ : Loc Cert.Reference.nD Cert.Reference.τ Cert.Reference.sig) → Buf (Elt Bits) ℓ) : Prop :=
  ∀ c : Dev Cert.Reference.nD,
    (Cert.Pre_table_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_table_in_range : Cert.Pre_table_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] [hPre_table_in_range : Cert.Pre_table_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def bitexact_Kernel_Reference [hKernel : Cert.Kernel.Facts] [hReference : Cert.Reference.Facts] [hPre_table_in_range : Cert.Pre_table_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v7) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_table_in_range : Cert.Pre_table_in_range.Facts),
    quiescent_Kernel (hKernel := hKernel) (hPre_table_in_range := hPre_table_in_range)
    ∧ quiescent_Reference (hReference := hReference) (hPre_table_in_range := hPre_table_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ bitexact_Kernel_Reference (hKernel := hKernel) (hReference := hReference) (hPre_table_in_range := hPre_table_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_table_in_range.lean ====
abbrev S320 : Shape := ⟨1, ![320]⟩
abbrev S_ : Shape := ⟨0, ![]⟩
abbrev S81920x16x128 : Shape := ⟨3, ![81920, 16, 128]⟩
abbrev S2x64x4096x256 : Shape := ⟨4, ![2, 64, 4096, 256]⟩
abbrev S2x64x256x4096 : Shape := ⟨4, ![2, 64, 256, 4096]⟩

class Facts : Prop where
  bcast_S_S320 : S_.BroadcastsInDim S320 (![] : Fin 0 → Fin S320.rank)
  reducesTo_S320_S_d0 : S320.ReducesTo [0] S_
  h_S_ : 0 < S_.numel

variable [Facts]

def fn {F : FTy → Type} [FloatOps F] (main_arg0 : IVec S320 32) (main_arg1 : IVec S_ 32) (main_arg2 : IVec S81920x16x128 32) (main_arg3 : FVec F S2x64x4096x256 .f32) (main_arg4 : FVec F S2x64x4096x256 .f32) (main_arg5 : FVec F S2x64x256x4096 .f32) : IVec S_ 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 64#32
  let main_v2 : IVec S320 32 := broadcastInDim S320 ![] bcast_S_S320 main_c_0
  let main_v3 : IVec S320 1 := cmpi .slt main_arg0 main_v2
  let main_v4 : IVec S320 1 := andi main_v1 main_v3
  let main_c_1 : IVec S_ 1 := constantI S_ 1 1#1
  let main_v5 : IVec S_ 1 := (fun x v => Host.reduce IntOp.andi x v reducesTo_S320_S_d0 h_S_) main_v4 main_c_1
  let main_c_2 : IVec S_ 32 := constantI S_ 32 1#32
  let main_v6 : IVec S_ 1 := cmpi .sge main_arg1 main_c_2
  let main_v7 : IVec S_ 1 := andi main_v5 main_v6
  let main_c_3 : IVec S_ 32 := constantI S_ 32 320#32
  let main_v8 : IVec S_ 1 := cmpi .sle main_arg1 main_c_3
  let main_v9 : IVec S_ 1 := andi main_v7 main_v8
  main_v9
-- ==== Kernel.lean ====
abbrev S320 : Shape := ⟨1, ![320]⟩
abbrev S_ : Shape := ⟨0, ![]⟩
abbrev S81920x16x128 : Shape := ⟨3, ![81920, 16, 128]⟩
abbrev S2x64x4096x256 : Shape := ⟨4, ![2, 64, 4096, 256]⟩
abbrev S2x64x256x4096 : Shape := ⟨4, ![2, 64, 256, 4096]⟩
abbrev S1 : Shape := ⟨1, ![1]⟩
abbrev S319 : Shape := ⟨1, ![319]⟩
abbrev S256x16x128 : Shape := ⟨3, ![256, 16, 128]⟩
abbrev S1x1x4096x256 : Shape := ⟨4, ![1, 1, 4096, 256]⟩
abbrev S1x1x256x4096 : Shape := ⟨4, ![1, 1, 256, 4096]⟩
abbrev S4096x256 : Shape := ⟨2, ![4096, 256]⟩
abbrev S256x4096 : Shape := ⟨2, ![256, 4096]⟩
abbrev S32x8x2x8x128 : Shape := ⟨5, ![32, 8, 2, 8, 128]⟩
abbrev S32x1x2x8x128 : Shape := ⟨5, ![32, 1, 2, 8, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S256x128 : Shape := ⟨2, ![256, 128]⟩
abbrev S256x2048 : Shape := ⟨2, ![256, 2048]⟩
abbrev S256x256 : Shape := ⟨2, ![256, 256]⟩

abbrev nBuf : Space → Nat
  | .hbm => 12
  | .vmem => 13
  | .smem => 3
  | _ => 0

abbrev bufTy : (tb : Table) → Fin (tcTables nBuf tb) → BufTy
  | .hbm, ⟨0, _⟩ => ⟨S_, .i32⟩
  | .hbm, ⟨1, _⟩ => ⟨S81920x16x128, .i32⟩
  | .hbm, ⟨2, _⟩ => ⟨S2x64x4096x256, .f32⟩
  | .hbm, ⟨3, _⟩ => ⟨S2x64x4096x256, .f32⟩
  | .hbm, ⟨4, _⟩ => ⟨S2x64x256x4096, .f32⟩
  | .hbm, ⟨5, _⟩ => ⟨S_, .i32⟩
  | .hbm, ⟨6, _⟩ => ⟨S1, .i32⟩
  | .hbm, ⟨7, _⟩ => ⟨S319, .i32⟩
  | .hbm, ⟨8, _⟩ => ⟨S319, .i32⟩
  | .hbm, ⟨9, _⟩ => ⟨S319, .i1⟩
  | .hbm, ⟨10, _⟩ => ⟨S319, .i32⟩
  | .hbm, ⟨11, _⟩ => ⟨S81920x16x128, .i32⟩
  | .local _ .vmem, ⟨0, _⟩ => ⟨S256x16x128, .i32⟩
  | .local _ .vmem, ⟨1, _⟩ => ⟨S256x16x128, .i32⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x256x4096, .f32⟩
  | .local _ .vmem, ⟨7, _⟩ => ⟨S1x1x256x4096, .f32⟩
  | .local _ .vmem, ⟨8, _⟩ => ⟨S256x16x128, .i32⟩
  | .local _ .vmem, ⟨9, _⟩ => ⟨S256x16x128, .i32⟩
  | .local _ .vmem, ⟨10, _⟩ => ⟨S4096x256, .bf16⟩
  | .local _ .vmem, ⟨11, _⟩ => ⟨S4096x256, .bf16⟩
  | .local _ .vmem, ⟨12, _⟩ => ⟨S256x4096, .bf16⟩
  | .local _ .smem, ⟨0, _⟩ => ⟨S320, .i32⟩
  | .local _ .smem, ⟨1, _⟩ => ⟨S320, .i32⟩
  | .local _ .smem, ⟨2, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v7 : Ref sig .tc := ⟨.hbm, 11, rfl⟩
abbrev main_arg0 : Ref sig .tc := ⟨.smem, 0, rfl⟩
abbrev main_v5 : Ref sig .tc := ⟨.smem, 1, rfl⟩
abbrev main_v6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![320], ![false]⟩

abbrev pre0 : Pipeline.Prefetch sig := ⟨3, ![main_arg0.idx, main_v5.idx, main_v6.idx], fun | 0 => main_arg0.names | 1 => main_v5.names | 2 => main_v6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference.lean ====
abbrev S320 : Shape := ⟨1, ![320]⟩
abbrev S_ : Shape := ⟨0, ![]⟩
abbrev S81920x16x128 : Shape := ⟨3, ![81920, 16, 128]⟩
abbrev S2x64x4096x256 : Shape := ⟨4, ![2, 64, 4096, 256]⟩
abbrev S2x64x256x4096 : Shape := ⟨4, ![2, 64, 256, 4096]⟩
abbrev S1x64x4096x256 : Shape := ⟨4, ![1, 64, 4096, 256]⟩
abbrev S64x4096x256 : Shape := ⟨3, ![64, 4096, 256]⟩
abbrev S320x1 : Shape := ⟨2, ![320, 1]⟩
abbrev S320x4096x256 : Shape := ⟨3, ![320, 4096, 256]⟩
abbrev S1x64x256x4096 : Shape := ⟨4, ![1, 64, 256, 4096]⟩
abbrev S64x256x4096 : Shape := ⟨3, ![64, 256, 4096]⟩
abbrev S320x256x4096 : Shape := ⟨3, ![320, 256, 4096]⟩
abbrev S256x16x128 : Shape := ⟨3, ![256, 16, 128]⟩
abbrev S256x2048 : Shape := ⟨2, ![256, 2048]⟩
abbrev S256x4096 : Shape := ⟨2, ![256, 4096]⟩
abbrev S1x4096x256 : Shape := ⟨3, ![1, 4096, 256]⟩
abbrev S4096x256 : Shape := ⟨2, ![4096, 256]⟩
abbrev S256x256 : Shape := ⟨2, ![256, 256]⟩
abbrev S1x256x4096 : Shape := ⟨3, ![1, 256, 4096]⟩

abbrev nBuf : Space → Nat
  | .hbm => 30
  | .vmem => 5
  | .smem => 0
  | _ => 0

abbrev bufTy : (tb : Table) → Fin (tcTables nBuf tb) → BufTy
  | .hbm, ⟨0, _⟩ => ⟨S320, .i32⟩
  | .hbm, ⟨1, _⟩ => ⟨S_, .i32⟩
  | .hbm, ⟨2, _⟩ => ⟨S81920x16x128, .i32⟩
  | .hbm, ⟨3, _⟩ => ⟨S2x64x4096x256, .f32⟩
  | .hbm, ⟨4, _⟩ => ⟨S2x64x4096x256, .f32⟩
  | .hbm, ⟨5, _⟩ => ⟨S2x64x256x4096, .f32⟩
  | .hbm, ⟨6, _⟩ => ⟨S1x64x4096x256, .f32⟩
  | .hbm, ⟨7, _⟩ => ⟨S64x4096x256, .f32⟩
  | .hbm, ⟨8, _⟩ => ⟨S320x1, .i32⟩
  | .hbm, ⟨9, _⟩ => ⟨S320x4096x256, .f32⟩
  | .hbm, ⟨10, _⟩ => ⟨S320x4096x256, .bf16⟩
  | .hbm, ⟨11, _⟩ => ⟨S1x64x4096x256, .f32⟩
  | .hbm, ⟨12, _⟩ => ⟨S64x4096x256, .f32⟩
  | .hbm, ⟨13, _⟩ => ⟨S320x1, .i32⟩
  | .hbm, ⟨14, _⟩ => ⟨S320x4096x256, .f32⟩
  | .hbm, ⟨15, _⟩ => ⟨S320x4096x256, .bf16⟩
  | .hbm, ⟨16, _⟩ => ⟨S1x64x256x4096, .f32⟩
  | .hbm, ⟨17, _⟩ => ⟨S64x256x4096, .f32⟩
  | .hbm, ⟨18, _⟩ => ⟨S320x1, .i32⟩
  | .hbm, ⟨19, _⟩ => ⟨S320x256x4096, .f32⟩
  | .hbm, ⟨20, _⟩ => ⟨S320x256x4096, .bf16⟩
  | .hbm, ⟨21, _⟩ => ⟨S81920x16x128, .i32⟩
  | .hbm, ⟨22, _⟩ => ⟨S81920x16x128, .i32⟩
  | .hbm, ⟨23, _⟩ => ⟨S_, .i32⟩
  | .hbm, ⟨24, _⟩ => ⟨S_, .i32⟩
  | .hbm, ⟨25, _⟩ => ⟨S81920x16x128, .i32⟩
  | .hbm, ⟨26, _⟩ => ⟨S81920x16x128, .i1⟩
  | .hbm, ⟨27, _⟩ => ⟨S_, .i32⟩
  | .hbm, ⟨28, _⟩ => ⟨S81920x16x128, .i32⟩
  | .hbm, ⟨29, _⟩ => ⟨S81920x16x128, .i32⟩
  | .local _ .vmem, ⟨0, _⟩ => ⟨S81920x16x128, .i32⟩
  | .local _ .vmem, ⟨1, _⟩ => ⟨S320x4096x256, .bf16⟩
  | .local _ .vmem, ⟨2, _⟩ => ⟨S320x4096x256, .bf16⟩
  | .local _ .vmem, ⟨3, _⟩ => ⟨S320x256x4096, .bf16⟩
  | .local _ .vmem, ⟨4, _⟩ => ⟨S81920x16x128, .i32⟩
  | _, _ => ⟨S320, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c320_i32 : BitVec 32 := 320#32
  let v0 : BitVec 32 := Scalar.addi c0_i32 c320_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : Index := Scalar.indexCast v1
  let c0 : Index := 0#32
  let c0_1 : Index := 0#32
  ![v2.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v9 : Index := Scalar.indexCast arg5
  let c0_2 : Index := 0#32
  let c0_3 : Index := 0#32
  ![v9.toNat, 0, 0]
def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let v21 : Index := Scalar.indexCast arg5
  let c0_7 : Index := 0#32
  let c0_8 : Index := 0#32
  ![v21.toNat, 0, 0]
abbrev stage0_0 : Fin 1 → Memref sig .tc .vmem S81920x16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S81920x16x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel2.lean ====
abbrev S8448x4096 : Shape := ⟨2, ![8448, 4096]⟩
abbrev S1x4096x9232 : Shape := ⟨3, ![1, 4096, 9232]⟩
abbrev S4096x9232 : Shape := ⟨2, ![4096, 9232]⟩
abbrev S8448x9216 : Shape := ⟨2, ![8448, 9216]⟩
abbrev S1056x4096 : Shape := ⟨2, ![1056, 4096]⟩
abbrev S4096x512 : Shape := ⟨2, ![4096, 512]⟩
abbrev S1056x512 : Shape := ⟨2, ![1056, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S1x4096x9232, .f32⟩
  | .hbm, ⟨2, _⟩ => ⟨S4096x9232, .f32⟩
  | .hbm, ⟨3, _⟩ => ⟨S8448x9216, .bf16⟩
  | .local _ .vmem, ⟨0, _⟩ => ⟨S1056x4096, .bf16⟩
  | .local _ .vmem, ⟨1, _⟩ => ⟨S1056x4096, .bf16⟩
  | .local _ .vmem, ⟨2, _⟩ => ⟨S4096x512, .f32⟩
  | .local _ .vmem, ⟨3, _⟩ => ⟨S4096x512, .f32⟩
  | .local _ .vmem, ⟨4, _⟩ => ⟨S1056x512, .bf16⟩
  | .local _ .vmem, ⟨5, _⟩ => ⟨S1056x512, .bf16⟩
  | .local _ .vmem, ⟨6, _⟩ => ⟨S4096x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8448x4096 : Shape := ⟨2, ![8448, 4096]⟩
abbrev S1x4096x9232 : Shape := ⟨3, ![1, 4096, 9232]⟩
abbrev S4096x9232 : Shape := ⟨2, ![4096, 9232]⟩
abbrev S4096x9216 : Shape := ⟨2, ![4096, 9216]⟩
abbrev S8448x9216 : Shape := ⟨2, ![8448, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S1x4096x9232, .f32⟩
  | .hbm, ⟨2, _⟩ => ⟨S8448x4096, .f32⟩
  | .hbm, ⟨3, _⟩ => ⟨S4096x9232, .f32⟩
  | .hbm, ⟨4, _⟩ => ⟨S4096x9216, .f32⟩
  | .hbm, ⟨5, _⟩ => ⟨S8448x9216, .f32⟩
  | .hbm, ⟨6, _⟩ => ⟨S8448x9216, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8448x2048 : Shape := ⟨2, ![8448, 2048]⟩
abbrev S1x4096x4096 : Shape := ⟨3, ![1, 4096, 4096]⟩
abbrev S8448x4096 : Shape := ⟨2, ![8448, 4096]⟩
abbrev S2x6x4096 : Shape := ⟨3, ![2, 6, 4096]⟩
abbrev S4096x4096 : Shape := ⟨2, ![4096, 4096]⟩
abbrev S768x2048 : Shape := ⟨2, ![768, 2048]⟩
abbrev S2048x512 : Shape := ⟨2, ![2048, 512]⟩
abbrev S768x512 : Shape := ⟨2, ![768, 512]⟩
abbrev S2x6x512 : Shape := ⟨3, ![2, 6, 512]⟩
abbrev S768x1 : Shape := ⟨2, ![768, 1]⟩
abbrev S1x1x512 : Shape := ⟨3, ![1, 1, 512]⟩
abbrev S1x512 : Shape := ⟨2, ![1, 512]⟩

abbrev nBuf : Space → Nat
  | .hbm => 7
  | .vmem => 16
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S1x4096x4096, .f32⟩
  | .hbm, ⟨3, _⟩ => ⟨S8448x4096, .f32⟩
  | .hbm, ⟨4, _⟩ => ⟨S2x6x4096, .f32⟩
  | .hbm, ⟨5, _⟩ => ⟨S4096x4096, .f32⟩
  | .hbm, ⟨6, _⟩ => ⟨S8448x4096, .f32⟩
  | .local _ .vmem, ⟨0, _⟩ => ⟨S768x2048, .bf16⟩
  | .local _ .vmem, ⟨1, _⟩ => ⟨S768x2048, .bf16⟩
  | .local _ .vmem, ⟨2, _⟩ => ⟨S768x2048, .bf16⟩
  | .local _ .vmem, ⟨3, _⟩ => ⟨S768x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S768x512, .f32⟩
  | .local _ .vmem, ⟨9, _⟩ => ⟨S768x512, .f32⟩
  | .local _ .vmem, ⟨10, _⟩ => ⟨S2x6x512, .f32⟩
  | .local _ .vmem, ⟨11, _⟩ => ⟨S2x6x512, .f32⟩
  | .local _ .vmem, ⟨12, _⟩ => ⟨S768x512, .f32⟩
  | .local _ .vmem, ⟨13, _⟩ => ⟨S768x512, .f32⟩
  | .local _ .vmem, ⟨14, _⟩ => ⟨S2048x512, .bf16⟩
  | .local _ .vmem, ⟨15, _⟩ => ⟨S2048x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8448x2048 : Shape := ⟨2, ![8448, 2048]⟩
abbrev S1x4096x4096 : Shape := ⟨3, ![1, 4096, 4096]⟩
abbrev S8448x4096 : Shape := ⟨2, ![8448, 4096]⟩
abbrev S2x6x4096 : Shape := ⟨3, ![2, 6, 4096]⟩
abbrev S4096x4096 : Shape := ⟨2, ![4096, 4096]⟩
abbrev S_ : Shape := ⟨0, ![]⟩
abbrev S1x1x4096 : Shape := ⟨3, ![1, 1, 4096]⟩
abbrev S4096 : Shape := ⟨1, ![4096]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S1x4096x4096, .f32⟩
  | .hbm, ⟨3, _⟩ => ⟨S8448x4096, .f32⟩
  | .hbm, ⟨4, _⟩ => ⟨S2x6x4096, .f32⟩
  | .hbm, ⟨5, _⟩ => ⟨S8448x4096, .bf16⟩
  | .hbm, ⟨6, _⟩ => ⟨S8448x4096, .f32⟩
  | .hbm, ⟨7, _⟩ => ⟨S4096x4096, .f32⟩
  | .hbm, ⟨8, _⟩ => ⟨S8448x4096, .f32⟩
  | .hbm, ⟨9, _⟩ => ⟨S8448x4096, .i32⟩
  | .hbm, ⟨10, _⟩ => ⟨S_, .i32⟩
  | .hbm, ⟨11, _⟩ => ⟨S8448x4096, .i32⟩
  | .hbm, ⟨12, _⟩ => ⟨S8448x4096, .i1⟩
  | .hbm, ⟨13, _⟩ => ⟨S1x1x4096, .f32⟩
  | .hbm, ⟨14, _⟩ => ⟨S4096, .f32⟩
  | .hbm, ⟨15, _⟩ => ⟨S4096, .f32⟩
  | .hbm, ⟨16, _⟩ => ⟨S1x1x4096, .f32⟩
  | .hbm, ⟨17, _⟩ => ⟨S4096, .f32⟩
  | .hbm, ⟨18, _⟩ => ⟨S4096, .f32⟩
  | .hbm, ⟨19, _⟩ => ⟨S8448x4096, .f32⟩
  | .hbm, ⟨20, _⟩ => ⟨S8448x4096, .f32⟩
  | .hbm, ⟨21, _⟩ => ⟨S8448x4096, .f32⟩
  | .hbm, ⟨22, _⟩ => ⟨S8448x4096, .f32⟩
  | .hbm, ⟨23, _⟩ => ⟨S8448x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel4.lean ====
abbrev S8192x4096 : Shape := ⟨2, ![8192, 4096]⟩
abbrev S1x4x1024x1024 : Shape := ⟨4, ![1, 4, 1024, 1024]⟩
abbrev S1x4096 : Shape := ⟨2, ![1, 4096]⟩
abbrev S2x6x4096 : Shape := ⟨3, ![2, 6, 4096]⟩
abbrev S4x1024x1024 : Shape := ⟨3, ![4, 1024, 1024]⟩
abbrev S4096 : Shape := ⟨1, ![4096]⟩
abbrev S1024x1024 : Shape := ⟨2, ![1024, 1024]⟩
abbrev S1x1024x1024 : Shape := ⟨3, ![1, 1024, 1024]⟩
abbrev S1x1024 : Shape := ⟨2, ![1, 1024]⟩
abbrev S2x6x1024 : Shape := ⟨3, ![2, 6, 1024]⟩
abbrev S1x1x1024 : Shape := ⟨3, ![1, 1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1x4x1024x1024, .f32⟩
  | .hbm, ⟨2, _⟩ => ⟨S1x4096, .f32⟩
  | .hbm, ⟨3, _⟩ => ⟨S8192x4096, .f32⟩
  | .hbm, ⟨4, _⟩ => ⟨S2x6x4096, .f32⟩
  | .hbm, ⟨5, _⟩ => ⟨S4x1024x1024, .f32⟩
  | .hbm, ⟨6, _⟩ => ⟨S4x1024x1024, .bf16⟩
  | .hbm, ⟨7, _⟩ => ⟨S4096, .f32⟩
  | .hbm, ⟨8, _⟩ => ⟨S1x4096, .f32⟩
  | .hbm, ⟨9, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S2x6x1024, .f32⟩
  | .local _ .vmem, ⟨9, _⟩ => ⟨S2x6x1024, .f32⟩
  | .local _ .vmem, ⟨10, _⟩ => ⟨S1024x1024, .f32⟩
  | .local _ .vmem, ⟨11, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x4096 : Shape := ⟨2, ![8192, 4096]⟩
abbrev S1x4x1024x1024 : Shape := ⟨4, ![1, 4, 1024, 1024]⟩
abbrev S1x4096 : Shape := ⟨2, ![1, 4096]⟩
abbrev S2x6x4096 : Shape := ⟨3, ![2, 6, 4096]⟩
abbrev S8192x4x1024 : Shape := ⟨3, ![8192, 4, 1024]⟩
abbrev S4x1024x1024 : Shape := ⟨3, ![4, 1024, 1024]⟩
abbrev S4x1024x8192 : Shape := ⟨3, ![4, 1024, 8192]⟩
abbrev S1x1x4096 : Shape := ⟨3, ![1, 1, 4096]⟩
abbrev S4096 : Shape := ⟨1, ![4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4x1024x1024, .f32⟩
  | .hbm, ⟨2, _⟩ => ⟨S1x4096, .f32⟩
  | .hbm, ⟨3, _⟩ => ⟨S8192x4096, .f32⟩
  | .hbm, ⟨4, _⟩ => ⟨S2x6x4096, .f32⟩
  | .hbm, ⟨5, _⟩ => ⟨S8192x4096, .f32⟩
  | .hbm, ⟨6, _⟩ => ⟨S8192x4x1024, .f32⟩
  | .hbm, ⟨7, _⟩ => ⟨S4x1024x1024, .f32⟩
  | .hbm, ⟨8, _⟩ => ⟨S4x1024x8192, .f32⟩
  | .hbm, ⟨9, _⟩ => ⟨S8192x4x1024, .f32⟩
  | .hbm, ⟨10, _⟩ => ⟨S8192x4096, .f32⟩
  | .hbm, ⟨11, _⟩ => ⟨S1x1x4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel5.lean ====
abbrev S4x33x128x1024 : Shape := ⟨4, ![4, 33, 128, 1024]⟩
abbrev S8448x512 : Shape := ⟨2, ![8448, 512]⟩
abbrev S4x33x128x256 : Shape := ⟨4, ![4, 33, 128, 256]⟩
abbrev S8448x2048 : Shape := ⟨2, ![8448, 2048]⟩
abbrev S1x1x128x1024 : Shape := ⟨4, ![1, 1, 128, 1024]⟩
abbrev S8448x128 : Shape := ⟨2, ![8448, 128]⟩
abbrev S1x33x128x256 : Shape := ⟨4, ![1, 33, 128, 256]⟩
abbrev S256x512 : Shape := ⟨2, ![256, 512]⟩
abbrev S1x1024 : Shape := ⟨2, ![1, 1024]⟩
abbrev S128x1024 : Shape := ⟨2, ![128, 1024]⟩
abbrev S1024x1024 : Shape := ⟨2, ![1024, 1024]⟩
abbrev S256x128 : Shape := ⟨2, ![256, 128]⟩
abbrev S256x1024 : Shape := ⟨2, ![256, 1024]⟩
abbrev S1024 : Shape := ⟨1, ![1024]⟩
abbrev S1x1x128x256 : Shape := ⟨4, ![1, 1, 128, 256]⟩
abbrev S128x256 : Shape := ⟨2, ![128, 256]⟩
abbrev S1024x128 : Shape := ⟨2, ![1024, 128]⟩

abbrev nBuf : Space → Nat
  | .hbm => 4
  | .vmem => 13
  | .smem => 0
  | _ => 0

abbrev bufTy : (tb : Table) → Fin (tcTables nBuf tb) → BufTy
  | .hbm, ⟨0, _⟩ => ⟨S4x33x128x1024, .bf16⟩
  | .hbm, ⟨1, _⟩ => ⟨S8448x512, .bf16⟩
  | .hbm, ⟨2, _⟩ => ⟨S4x33x128x256, .bf16⟩
  | .hbm, ⟨3, _⟩ => ⟨S8448x2048, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S8448x128, .bf16⟩
  | .local _ .vmem, ⟨3, _⟩ => ⟨S8448x128, .bf16⟩
  | .local _ .vmem, ⟨4, _⟩ => ⟨S1x33x128x256, .bf16⟩
  | .local _ .vmem, ⟨5, _⟩ => ⟨S1x33x128x256, .bf16⟩
  | .local _ .vmem, ⟨6, _⟩ => ⟨S256x512, .bf16⟩
  | .local _ .vmem, ⟨7, _⟩ => ⟨S256x512, .bf16⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S1024x1024, .f32⟩
  | .local _ .vmem, ⟨12, _⟩ => ⟨S1024x1024, .f32⟩
  | _, _ => ⟨S4x33x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 33], ![false, false]⟩

def k0_mult1 : BitVec 32 :=
  let c256_i32 : BitVec 32 := 256#32
  let c0_i32 : BitVec 32 := 0#32
  let c7_i32 : BitVec 32 := 7#32
  let v24 : BitVec 32 := Scalar.minsi c0_i32 c7_i32
  let c1024_i32 : BitVec 32 := 1024#32
  let v25 : BitVec 32 := Scalar.muli v24 c1024_i32
  let v26 : BitVec 32 := Scalar.addi c256_i32 v25
  v26
def k0_off1 : Fin 2 → Nat :=
  let c256_i32 : BitVec 32 := 256#32
  let c0_i32 : BitVec 32 := 0#32
  let c7_i32 : BitVec 32 := 7#32
  let v24 : BitVec 32 := Scalar.minsi c0_i32 c7_i32
  let c1024_i32 : BitVec 32 := 1024#32
  let v25 : BitVec 32 := Scalar.muli v24 c1024_i32
  let v26 : BitVec 32 := Scalar.addi c256_i32 v25
  let v27 : BitVec 32 := v26
  let v28 : Index := Scalar.indexCast v27
  let c0_18 : Index := 0#32
  ![v28.toNat, 0]
@[reducible] def k0_t1_loop (i : grid0.Coords) : Scf.Loop 32 :=
  let c0_i32_25 : BitVec 32 := 0#32
  let arg1 : BitVec 32 := BitVec.ofNat 32 (i 1).val
  let c0_i32_22 : BitVec 32 := 0#32
  let v34 : BitVec 1 := Scalar.cmpi .eq arg1 c0_i32_22
  let c0_i32_23 : BitVec 32 := 0#32
  let c4_i32 : BitVec 32 := 4#32
  let v35 : BitVec 32 := Scalar.select v34 c0_i32_23 c4_i32
  let v36 : BitVec 32 := Scalar.subi v35 c0_i32_25
  let c1_i32 : BitVec 32 := 1#32
  let v38 : BitVec 32 := Scalar.divsi v36 c1_i32
  let v39 : BitVec 32 := Scalar.muli v38 c1_i32
  let v40 : BitVec 32 := Scalar.addi c0_i32_25 v39
  let c1_i32_26 : BitVec 32 := 1#32
  ⟨c0_i32_25, v40, c1_i32_26⟩
def k0_mult2 (i : grid0.Coords) (k0_t1 : Fin (k0_t1_loop i).trips) : BitVec 32 :=
  let c256_i32_40 : BitVec 32 := 256#32
  let c2_i32 : BitVec 32 := 2#32
  let c0_i32_25 : BitVec 32 := 0#32
  let c1_i32_26 : BitVec 32 := 1#32
  let arg11 : BitVec 32 := Scf.iv c0_i32_25 c1_i32_26 k0_t1
  let v61 : BitVec 32 := Scalar.muli c2_i32 arg11
  let c1_i32_37 : BitVec 32 := 1#32
  let v62 : BitVec 32 := Scalar.addi v61 c1_i32_37
  let c7_i32_38 : BitVec 32 := 7#32
  let v63 : BitVec 32 := Scalar.minsi v62 c7_i32_38
  let c1024_i32_39 : BitVec 32 := 1024#32
  let v64 : BitVec 32 := Scalar.muli v63 c1024_i32_39
  let v65 : BitVec 32 := Scalar.addi c256_i32_40 v64
  v65
def k0_off2 (i : grid0.Coords) (k0_t1 : Fin (k0_t1_loop i).trips) (c1_i32_37 : BitVec 32) : Fin 2 → Nat :=
  let c256_i32_40 : BitVec 32 := 256#32
  let c2_i32 : BitVec 32 := 2#32
  let c0_i32_25 : BitVec 32 := 0#32
  let c1_i32_26 : BitVec 32 := 1#32
  let arg11 : BitVec 32 := Scf.iv c0_i32_25 c1_i32_26 k0_t1
  let v61 : BitVec 32 := Scalar.muli c2_i32 arg11
  let v62 : BitVec 32 := Scalar.addi v61 c1_i32_37
  let c7_i32_38 : BitVec 32 := 7#32
  let v63 : BitVec 32 := Scalar.minsi v62 c7_i32_38
  let c1024_i32_39 : BitVec 32 := 1024#32
  let v64 : BitVec 32 := Scalar.muli v63 c1024_i32_39
  let v65 : BitVec 32 := Scalar.addi c256_i32_40 v64
  let v66 : BitVec 32 := v65
  let v67 : Index := Scalar.indexCast v66
  let c0_41 : Index := 0#32
  ![v67.toNat, 0]
def k0_off3 (i : grid0.Coords) (k0_t1 : Fin (k0_t1_loop i).trips) (c0_i32_57 : BitVec 32) : Fin 4 → Nat :=
  let c0_58 : Index := 0#32
  let c1_i32_56 : BitVec 32 := 1#32
  let c2_i32 : BitVec 32 := 2#32
  let c0_i32_25 : BitVec 32 := 0#32
  let c1_i32_26 : BitVec 32 := 1#32
  let arg11 : BitVec 32 := Scf.iv c0_i32_25 c1_i32_26 k0_t1
  let v61 : BitVec 32 := Scalar.muli c2_i32 arg11
  let c4_i32_55 : BitVec 32 := 4#32
  let v91 : BitVec 32 := Scalar.muli v61 c4_i32_55
  let v92 : BitVec 32 := Scalar.addi c1_i32_56 v91
  let v93 : BitVec 32 := Scalar.addi v92 c0_i32_57
  let v94 : Index := Scalar.indexCast v93
  let c0_59 : Index := 0#32
  let c0_60 : Index := 0#32
  ![0, v94.toNat, 0, 0]
def k0_mult3 (i : grid0.Coords) (k0_t1 : Fin (k0_t1_loop i).trips) : BitVec 32 :=
  let c256_i32_88 : BitVec 32 := 256#32
  let c2_i32 : BitVec 32 := 2#32
  let c0_i32_25 : BitVec 32 := 0#32
  let c1_i32_26 : BitVec 32 := 1#32
  let arg11 : BitVec 32 := Scf.iv c0_i32_25 c1_i32_26 k0_t1
  let v61 : BitVec 32 := Scalar.muli c2_i32 arg11
  let c2_i32_85 : BitVec 32 := 2#32
  let v128 : BitVec 32 := Scalar.addi v61 c2_i32_85
  let c7_i32_86 : BitVec 32 := 7#32
  let v129 : BitVec 32 := Scalar.minsi v128 c7_i32_86
  let c1024_i32_87 : BitVec 32 := 1024#32
  let v130 : BitVec 32 := Scalar.muli v129 c1024_i32_87
  let v131 : BitVec 32 := Scalar.addi c256_i32_88 v130
  v131
def k0_off4 (i : grid0.Coords) (k0_t1 : Fin (k0_t1_loop i).trips) (c0_i32_106 : BitVec 32) : Fin 4 → Nat :=
  let c0_107 : Index := 0#32
  let c1_i32_105 : BitVec 32 := 1#32
  let c2_i32 : BitVec 32 := 2#32
  let c0_i32_25 : BitVec 32 := 0#32
  let c1_i32_26 : BitVec 32 := 1#32
  let arg11 : BitVec 32 := Scf.iv c0_i32_25 c1_i32_26 k0_t1
  let v61 : BitVec 32 := Scalar.muli c2_i32 arg11
  let c1_i32_95 : BitVec 32 := 1#32
  let v140 : BitVec 32 := Scalar.addi v61 c1_i32_95
  let c4_i32_104 : BitVec 32 := 4#32
  let v158 : BitVec 32 := Scalar.muli v140 c4_i32_104
  let v159 : BitVec 32 := Scalar.addi c1_i32_105 v158
  let v160 : BitVec 32 := Scalar.addi v159 c0_i32_106
  let v161 : Index := Scalar.indexCast v160
  let c0_108 : Index := 0#32
  let c0_109 : Index := 0#32
  ![0, v161.toNat, 0, 0]
@[reducible] def k0_t2_loop (i : grid0.Coords) : Scf.Loop 32 :=
  let c0_i32_25 : BitVec 32 := 0#32
  let arg1 : BitVec 32 := BitVec.ofNat 32 (i 1).val
  let c0_i32_22 : BitVec 32 := 0#32
  let v34 : BitVec 1 := Scalar.cmpi .eq arg1 c0_i32_22
  let c0_i32_23 : BitVec 32 := 0#32
  let c4_i32 : BitVec 32 := 4#32
  let v35 : BitVec 32 := Scalar.select v34 c0_i32_23 c4_i32
  let v36 : BitVec 32 := Scalar.subi v35 c0_i32_25
  let c1_i32 : BitVec 32 := 1#32
  let v38 : BitVec 32 := Scalar.divsi v36 c1_i32
  let v39 : BitVec 32 := Scalar.muli v38 c1_i32
  let v40 : BitVec 32 := Scalar.addi c0_i32_25 v39
  let v37 : BitVec 32 := Scalar.addi c0_i32_25 v36
  let c1_i32_27 : BitVec 32 := 1#32
  ⟨v40, v37, c1_i32_27⟩
def k0_mult4 (i : grid0.Coords) (k0_t2 : Fin (k0_t2_loop i).trips) : BitVec 32 :=
  let c256_i32_40 : BitVec 32 := 256#32
  let c2_i32 : BitVec 32 := 2#32
  let c0_i32_25 : BitVec 32 := 0#32
  let arg1 : BitVec 32 := BitVec.ofNat 32 (i 1).val
  let c0_i32_22 : BitVec 32 := 0#32
  let v34 : BitVec 1 := Scalar.cmpi .eq arg1 c0_i32_22
  let c0_i32_23 : BitVec 32 := 0#32
  let c4_i32 : BitVec 32 := 4#32
  let v35 : BitVec 32 := Scalar.select v34 c0_i32_23 c4_i32
  let v36 : BitVec 32 := Scalar.subi v35 c0_i32_25
  let c1_i32 : BitVec 32 := 1#32
  let v38 : BitVec 32 := Scalar.divsi v36 c1_i32
  let v39 : BitVec 32 := Scalar.muli v38 c1_i32
  let v40 : BitVec 32 := Scalar.addi c0_i32_25 v39
  let c1_i32_27 : BitVec 32 := 1#32
  let arg11 : BitVec 32 := Scf.iv v40 c1_i32_27 k0_t2
  let v61 : BitVec 32 := Scalar.muli c2_i32 arg11
  let c1_i32_37 : BitVec 32 := 1#32
  let v62 : BitVec 32 := Scalar.addi v61 c1_i32_37
  let c7_i32_38 : BitVec 32 := 7#32
  let v63 : BitVec 32 := Scalar.minsi v62 c7_i32_38
  let c1024_i32_39 : BitVec 32 := 1024#32
  let v64 : BitVec 32 := Scalar.muli v63 c1024_i32_39
  let v65 : BitVec 32 := Scalar.addi c256_i32_40 v64
  v65
def k0_off5 (i : grid0.Coords) (k0_t2 : Fin (k0_t2_loop i).trips) (c1_i32_37 : BitVec 32) : Fin 2 → Nat :=
  let c256_i32_40 : BitVec 32 := 256#32
  let c2_i32 : BitVec 32 := 2#32
  let c0_i32_25 : BitVec 32 := 0#32
  let arg1 : BitVec 32 := BitVec.ofNat 32 (i 1).val
  let c0_i32_22 : BitVec 32 := 0#32
  let v34 : BitVec 1 := Scalar.cmpi .eq arg1 c0_i32_22
  let c0_i32_23 : BitVec 32 := 0#32
  let c4_i32 : BitVec 32 := 4#32
  let v35 : BitVec 32 := Scalar.select v34 c0_i32_23 c4_i32
  let v36 : BitVec 32 := Scalar.subi v35 c0_i32_25
  let c1_i32 : BitVec 32 := 1#32
  let v38 : BitVec 32 := Scalar.divsi v36 c1_i32
  let v39 : BitVec 32 := Scalar.muli v38 c1_i32
  let v40 : BitVec 32 := Scalar.addi c0_i32_25 v39
  let c1_i32_27 : BitVec 32 := 1#32
  let arg11 : BitVec 32 := Scf.iv v40 c1_i32_27 k0_t2
  let v61 : BitVec 32 := Scalar.muli c2_i32 arg11
  let v62 : BitVec 32 := Scalar.addi v61 c1_i32_37
  let c7_i32_38 : BitVec 32 := 7#32
  let v63 : BitVec 32 := Scalar.minsi v62 c7_i32_38
  let c1024_i32_39 : BitVec 32 := 1024#32
  let v64 : BitVec 32 := Scalar.muli v63 c1024_i32_39
  let v65 : BitVec 32 := Scalar.addi c256_i32_40 v64
  let v66 : BitVec 32 := v65
  let v67 : Index := Scalar.indexCast v66
  let c0_41 : Index := 0#32
  ![v67.toNat, 0]
def k0_off6 (i : grid0.Coords) (k0_t2 : Fin (k0_t2_loop i).trips) (c0_i32_57 : BitVec 32) : Fin 4 → Nat :=
  let c0_58 : Index := 0#32
  let c1_i32_56 : BitVec 32 := 1#32
  let c2_i32 : BitVec 32 := 2#32
  let c0_i32_25 : BitVec 32 := 0#32
  let arg1 : BitVec 32 := BitVec.ofNat 32 (i 1).val
  let c0_i32_22 : BitVec 32 := 0#32
  let v34 : BitVec 1 := Scalar.cmpi .eq arg1 c0_i32_22
  let c0_i32_23 : BitVec 32 := 0#32
  let c4_i32 : BitVec 32 := 4#32
  let v35 : BitVec 32 := Scalar.select v34 c0_i32_23 c4_i32
  let v36 : BitVec 32 := Scalar.subi v35 c0_i32_25
  let c1_i32 : BitVec 32 := 1#32
  let v38 : BitVec 32 := Scalar.divsi v36 c1_i32
  let v39 : BitVec 32 := Scalar.muli v38 c1_i32
  let v40 : BitVec 32 := Scalar.addi c0_i32_25 v39
  let c1_i32_27 : BitVec 32 := 1#32
  let arg11 : BitVec 32 := Scf.iv v40 c1_i32_27 k0_t2
  let v61 : BitVec 32 := Scalar.muli c2_i32 arg11
  let c4_i32_55 : BitVec 32 := 4#32
  let v91 : BitVec 32 := Scalar.muli v61 c4_i32_55
  let v92 : BitVec 32 := Scalar.addi c1_i32_56 v91
  let v93 : BitVec 32 := Scalar.addi v92 c0_i32_57
  let v94 : Index := Scalar.indexCast v93
  let c0_59 : Index := 0#32
  let c0_60 : Index := 0#32
  ![0, v94.toNat, 0, 0]
def k0_mult5 (i : grid0.Coords) (k0_t2 : Fin (k0_t2_loop i).trips) : BitVec 32 :=
  let c256_i32_88 : BitVec 32 := 256#32
  let c2_i32 : BitVec 32 := 2#32
  let c0_i32_25 : BitVec 32 := 0#32
  let arg1 : BitVec 32 := BitVec.ofNat 32 (i 1).val
  let c0_i32_22 : BitVec 32 := 0#32
  let v34 : BitVec 1 := Scalar.cmpi .eq arg1 c0_i32_22
  let c0_i32_23 : BitVec 32 := 0#32
  let c4_i32 : BitVec 32 := 4#32
  let v35 : BitVec 32 := Scalar.select v34 c0_i32_23 c4_i32
  let v36 : BitVec 32 := Scalar.subi v35 c0_i32_25
  let c1_i32 : BitVec 32 := 1#32
  let v38 : BitVec 32 := Scalar.divsi v36 c1_i32
  let v39 : BitVec 32 := Scalar.muli v38 c1_i32
  let v40 : BitVec 32 := Scalar.addi c0_i32_25 v39
  let c1_i32_27 : BitVec 32 := 1#32
  let arg11 : BitVec 32 := Scf.iv v40 c1_i32_27 k0_t2
  let v61 : BitVec 32 := Scalar.muli c2_i32 arg11
  let c2_i32_85 : BitVec 32 := 2#32
  let v128 : BitVec 32 := Scalar.addi v61 c2_i32_85
  let c7_i32_86 : BitVec 32 := 7#32
  let v129 : BitVec 32 := Scalar.minsi v128 c7_i32_86
  let c1024_i32_87 : BitVec 32 := 1024#32
  let v130 : BitVec 32 := Scalar.muli v129 c1024_i32_87
  let v131 : BitVec 32 := Scalar.addi c256_i32_88 v130
  v131
def k0_off7 (i : grid0.Coords) (k0_t2 : Fin (k0_t2_loop i).trips) (c0_i32_106 : BitVec 32) : Fin 4 → Nat :=
  let c0_107 : Index := 0#32
  let c1_i32_105 : BitVec 32 := 1#32
  let c2_i32 : BitVec 32 := 2#32
  let c0_i32_25 : BitVec 32 := 0#32
  let arg1 : BitVec 32 := BitVec.ofNat 32 (i 1).val
  let c0_i32_22 : BitVec 32 := 0#32
  let v34 : BitVec 1 := Scalar.cmpi .eq arg1 c0_i32_22
  let c0_i32_23 : BitVec 32 := 0#32
  let c4_i32 : BitVec 32 := 4#32
  let v35 : BitVec 32 := Scalar.select v34 c0_i32_23 c4_i32
  let v36 : BitVec 32 := Scalar.subi v35 c0_i32_25
  let c1_i32 : BitVec 32 := 1#32
  let v38 : BitVec 32 := Scalar.divsi v36 c1_i32
  let v39 : BitVec 32 := Scalar.muli v38 c1_i32
  let v40 : BitVec 32 := Scalar.addi c0_i32_25 v39
  let c1_i32_27 : BitVec 32 := 1#32
  let arg11 : BitVec 32 := Scf.iv v40 c1_i32_27 k0_t2
  let v61 : BitVec 32 := Scalar.muli c2_i32 arg11
  let c1_i32_95 : BitVec 32 := 1#32
  let v140 : BitVec 32 := Scalar.addi v61 c1_i32_95
  let c4_i32_104 : BitVec 32 := 4#32
  let v158 : BitVec 32 := Scalar.muli v140 c4_i32_104
  let v159 : BitVec 32 := Scalar.addi c1_i32_105 v158
  let v160 : BitVec 32 := Scalar.addi v159 c0_i32_106
  let v161 : Index := Scalar.indexCast v160
  let c0_108 : Index := 0#32
  let c0_109 : Index := 0#32
  ![0, v161.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x33x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x33x128x1024 : Shape := ⟨4, ![4, 33, 128, 1024]⟩
abbrev S8448x512 : Shape := ⟨2, ![8448, 512]⟩
abbrev S4x33x128x256 : Shape := ⟨4, ![4, 33, 128, 256]⟩
abbrev S4x33x128x4x256 : Shape := ⟨5, ![4, 33, 128, 4, 256]⟩
abbrev S4x4x33x256x128 : Shape := ⟨5, ![4, 4, 33, 256, 128]⟩
abbrev S4x4x8448x128 : Shape := ⟨4, ![4, 4, 8448, 128]⟩
abbrev S8448x4x128 : Shape := ⟨3, ![8448, 4, 128]⟩
abbrev S4x8448x128 : Shape := ⟨3, ![4, 8448, 128]⟩
abbrev S4x33x256x128 : Shape := ⟨4, ![4, 33, 256, 128]⟩
abbrev S4x4x256x128 : Shape := ⟨4, ![4, 4, 256, 128]⟩
abbrev S4x256x128 : Shape := ⟨3, ![4, 256, 128]⟩
abbrev S4x4x256x256 : Shape := ⟨4, ![4, 4, 256, 256]⟩
abbrev S_ : Shape := ⟨0, ![]⟩
abbrev S4x4x256 : Shape := ⟨3, ![4, 4, 256]⟩
abbrev S4x4x256x1 : Shape := ⟨4, ![4, 4, 256, 1]⟩
abbrev S4x4x8192x128 : Shape := ⟨4, ![4, 4, 8192, 128]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S8448x4x4x128 : Shape := ⟨4, ![8448, 4, 4, 128]⟩
abbrev S8448x2048 : Shape := ⟨2, ![8448, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x33x128x1024, .bf16⟩
  | .hbm, ⟨1, _⟩ => ⟨S8448x512, .bf16⟩
  | .hbm, ⟨2, _⟩ => ⟨S4x33x128x256, .bf16⟩
  | .hbm, ⟨3, _⟩ => ⟨S4x33x128x1024, .f32⟩
  | .hbm, ⟨4, _⟩ => ⟨S4x33x128x4x256, .f32⟩
  | .hbm, ⟨5, _⟩ => ⟨S4x4x33x256x128, .f32⟩
  | .hbm, ⟨6, _⟩ => ⟨S4x4x8448x128, .f32⟩
  | .hbm, ⟨7, _⟩ => ⟨S8448x512, .f32⟩
  | .hbm, ⟨8, _⟩ => ⟨S8448x4x128, .f32⟩
  | .hbm, ⟨9, _⟩ => ⟨S4x8448x128, .f32⟩
  | .hbm, ⟨10, _⟩ => ⟨S4x33x128x256, .f32⟩
  | .hbm, ⟨11, _⟩ => ⟨S4x33x256x128, .f32⟩
  | .hbm, ⟨12, _⟩ => ⟨S4x8448x128, .f32⟩
  | .hbm, ⟨13, _⟩ => ⟨S4x4x256x128, .f32⟩
  | .hbm, ⟨14, _⟩ => ⟨S4x256x128, .f32⟩
  | .hbm, ⟨15, _⟩ => ⟨S4x256x128, .f32⟩
  | .hbm, ⟨16, _⟩ => ⟨S4x4x256x256, .f32⟩
  | .hbm, ⟨17, _⟩ => ⟨S_, .f32⟩
  | .hbm, ⟨18, _⟩ => ⟨S4x4x256, .f32⟩
  | .hbm, ⟨19, _⟩ => ⟨S4x4x256x1, .f32⟩
  | .hbm, ⟨20, _⟩ => ⟨S4x4x256x256, .f32⟩
  | .hbm, ⟨21, _⟩ => ⟨S4x4x256x256, .f32⟩
  | .hbm, ⟨22, _⟩ => ⟨S_, .f32⟩
  | .hbm, ⟨23, _⟩ => ⟨S4x4x256x256, .f32⟩
  | .hbm, ⟨24, _⟩ => ⟨S4x4x256x256, .f32⟩
  | .hbm, ⟨25, _⟩ => ⟨S4x4x256x128, .f32⟩
  | .hbm, ⟨26, _⟩ => ⟨S_, .f32⟩
  | .hbm, ⟨27, _⟩ => ⟨S4x4x256, .f32⟩
  | .hbm, ⟨28, _⟩ => ⟨S4x4x256x1, .f32⟩
  | .hbm, ⟨29, _⟩ => ⟨S4x4x256x128, .f32⟩
  | .hbm, ⟨30, _⟩ => ⟨S4x4x256x128, .f32⟩
  | .hbm, ⟨31, _⟩ => ⟨S4x4x8192x128, .f32⟩
  | .hbm, ⟨32, _⟩ => ⟨S4x4x8192x8448, .f32⟩
  | .hbm, ⟨33, _⟩ => ⟨S_, .f32⟩
  | .hbm, ⟨34, _⟩ => ⟨S4x4x8192, .f32⟩
  | .hbm, ⟨35, _⟩ => ⟨S4x4x8192x1, .f32⟩
  | .hbm, ⟨36, _⟩ => ⟨S4x4x8192x8448, .f32⟩
  | .hbm, ⟨37, _⟩ => ⟨S4x4x8192x8448, .f32⟩
  | .hbm, ⟨38, _⟩ => ⟨S_, .f32⟩
  | .hbm, ⟨39, _⟩ => ⟨S4x4x8192x8448, .f32⟩
  | .hbm, ⟨40, _⟩ => ⟨S4x4x8192x8448, .f32⟩
  | .hbm, ⟨41, _⟩ => ⟨S4x4x8192x128, .f32⟩
  | .hbm, ⟨42, _⟩ => ⟨S_, .f32⟩
  | .hbm, ⟨43, _⟩ => ⟨S4x4x8192, .f32⟩
  | .hbm, ⟨44, _⟩ => ⟨S4x4x8192x1, .f32⟩
  | .hbm, ⟨45, _⟩ => ⟨S4x4x8192x128, .f32⟩
  | .hbm, ⟨46, _⟩ => ⟨S4x4x8192x128, .f32⟩
  | .hbm, ⟨47, _⟩ => ⟨S4x4x8448x128, .f32⟩
  | .hbm, ⟨48, _⟩ => ⟨S8448x4x4x128, .f32⟩
  | .hbm, ⟨49, _⟩ => ⟨S8448x2048, .f32⟩
  | .hbm, ⟨50, _⟩ => ⟨S8448x2048, .bf16⟩
  | _, _ => ⟨S4x33x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Proof.Body.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ReadBack

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [BitOps F]

local notation "𝕄" => MT nD τ sig Unit (Elt F) ℕ (UR sig nD τ) ℕ

/-- The three tables the body reads, each a whole buffer. -/
abbrev tab0 : Memref sig .tc .smem S320 .i32 := Memref.whole main_arg0
abbrev tab1 : Memref sig .tc .smem S320 .i32 := Memref.whole main_v5
abbrev tab2 : Memref sig .tc .smem S1 .i32 := Memref.whole main_v6
/-- The three scratch buffers. -/
abbrev scr0 : Memref sig .tc .vmem S4096x256 .bf16 := Memref.whole cc0_scratch0
abbrev scr1 : Memref sig .tc .vmem S4096x256 .bf16 := Memref.whole cc0_scratch1
abbrev scr2 : Memref sig .tc .vmem S256x4096 .bf16 := Memref.whole cc0_scratch2

/-- A table's contents on core `c`, and the half of it the body may read. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The tile of rows as bf16 numbers: the packed words of the block, regrouped row by row and unpacked. -/
def xTile (v13 : Vec F S256x16x128 .i32) : FVec F S256x4096 .bf16 :=
  have v31 : IVec S32x2x8x128 32 := iota .tc S32x2x8x128 32 [2] iota_S32x2x8x128_d2_w32
  k0_pay41 (F := F)
    (k0_pay33 v31 (k0_pay15 v13) (k0_pay16 v13) (k0_pay17 v13) (k0_pay18 v13))
    (k0_pay34 v31 (k0_pay15 v13) (k0_pay16 v13) (k0_pay17 v13) (k0_pay18 v13))
    (k0_pay35 v31 (k0_pay15 v13) (k0_pay16 v13) (k0_pay17 v13) (k0_pay18 v13))
    (k0_pay36 v31 (k0_pay15 v13) (k0_pay16 v13) (k0_pay17 v13) (k0_pay18 v13))
    (k0_pay37 v31 (k0_pay19 v13) (k0_pay20 v13) (k0_pay21 v13) (k0_pay22 v13))
    (k0_pay38 v31 (k0_pay19 v13) (k0_pay20 v13) (k0_pay21 v13) (k0_pay22 v13))
    (k0_pay39 v31 (k0_pay19 v13) (k0_pay20 v13) (k0_pay21 v13) (k0_pay22 v13))
    (k0_pay40 v31 (k0_pay19 v13) (k0_pay20 v13) (k0_pay21 v13) (k0_pay22 v13))

/-- The tile's product with the gate weights. -/
def gTile (v13 : Vec F S256x16x128 .i32) (wg : Vec F S4096x256 .bf16) : FVec F S256x256 .f32 :=
  have v31 : IVec S32x2x8x128 32 := iota .tc S32x2x8x128 32 [2] iota_S32x2x8x128_d2_w32
  k0_pay42
    (k0_pay33 v31 (k0_pay15 v13) (k0_pay16 v13) (k0_pay17 v13) (k0_pay18 v13))
    (k0_pay34 v31 (k0_pay15 v13) (k0_pay16 v13) (k0_pay17 v13) (k0_pay18 v13))
    (k0_pay35 v31 (k0_pay15 v13) (k0_pay16 v13) (k0_pay17 v13) (k0_pay18 v13))
    (k0_pay36 v31 (k0_pay15 v13) (k0_pay16 v13) (k0_pay17 v13) (k0_pay18 v13))
    (k0_pay37 v31 (k0_pay19 v13) (k0_pay20 v13) (k0_pay21 v13) (k0_pay22 v13))
    (k0_pay38 v31 (k0_pay19 v13) (k0_pay20 v13) (k0_pay21 v13) (k0_pay22 v13))
    (k0_pay39 v31 (k0_pay19 v13) (k0_pay20 v13) (k0_pay21 v13) (k0_pay22 v13))
    (k0_pay40 v31 (k0_pay19 v13) (k0_pay20 v13) (k0_pay21 v13) (k0_pay22 v13)) wg

/-- What the rest of a used grid point makes of the tile `a`, its gate product `b` and the two other weights. -/
def outTile (a : FVec F S256x4096 .bf16) (b : FVec F S256x256 .f32) (wu : Vec F S4096x256 .bf16) (wd : Vec F S256x4096 .bf16) :
    Vec F S256x16x128 .i32 :=
  k0_pay74 (iota .tc S32x2x8x128 32 [2] iota_S32x2x8x128_d2_w32)
    (k0_pay65 (k0_pay47 a b wu wd) (k0_pay51 a b wu wd) (k0_pay55 a b wu wd))
    (k0_pay66 (k0_pay44 a b wu wd) (k0_pay48 a b wu wd) (k0_pay52 a b wu wd))
    (k0_pay67 (k0_pay45 a b wu wd) (k0_pay49 a b wu wd) (k0_pay53 a b wu wd))
    (k0_pay68 (k0_pay46 a b wu wd) (k0_pay50 a b wu wd) (k0_pay54 a b wu wd))
    k0_pay69
    (k0_pay70 (k0_pay45 a b wu wd) (k0_pay47 a b wu wd) (k0_pay49 a b wu wd) (k0_pay51 a b wu wd) (k0_pay53 a b wu wd) (k0_pay55 a b wu wd))
    (k0_pay71 (k0_pay44 a b wu wd) (k0_pay46 a b wu wd) (k0_pay48 a b wu wd) (k0_pay50 a b wu wd) (k0_pay52 a b wu wd) (k0_pay54 a b wu wd))
    (k0_pay72 (k0_pay45 a b wu wd) (k0_pay47 a b wu wd) (k0_pay49 a b wu wd) (k0_pay51 a b wu wd) (k0_pay53 a b wu wd) (k0_pay55 a b wu wd))
    (k0_pay73 (k0_pay44 a b wu wd) (k0_pay46 a b wu wd) (k0_pay48 a b wu wd) (k0_pay50 a b wu wd) (k0_pay52 a b wu wd) (k0_pay54 a b wu wd))

/-- The block a used grid point stores, of the rows' block and the three weights. -/
def tileOut (vx : Vec F S256x16x128 .i32) (wg wu : Vec F S4096x256 .bf16) (wd : Vec F S256x4096 .bf16) : Vec F S256x16x128 .i32 :=
  outTile (xTile vx) (gTile vx wg) wu wd

/-- The kernel's test of the word that says whether a tile is the first of its expert. -/
abbrev firstTest (w : Elt F .i32) : BitVec 1 := Scalar.cmpi .ne (Scalar.extui (Scalar.cmpi .eq w 1#32) : BitVec 32) 0#32

/-- A grid point past the used tiles stores zeros and touches nothing else. -/
theorem body_unused (c : Dev nD) (i : grid0.Coords)
    (x : Memref sig .tc .vmem S256x16x128 .i32) (hx : x.IsWhole)
    (g : Memref sig .tc .vmem S1x1x4096x256 .f32) (hg : g.IsWhole)
    (u : Memref sig .tc .vmem S1x1x4096x256 .f32) (hu : u.IsWhole)
    (d : Memref sig .tc .vmem S1x1x256x4096 .f32) (hd : d.IsWhole)
    (y : Memref sig .tc .vmem S256x16x128 .i32) (hy : y.IsWhole)
    (t2 : TabBuf (F := F) c tab2) (n : Elt F .i32) (hn : t2 = fun _ => n)
    (hused : ¬ k0_cond1 i n = 1#1) (hrest : k0_cond3 i n = 1#1)
    (E : Set ℕ) (K : PUnit → sProp 𝕄) :
    iprop((∃ v, owns (c : Thread nD τ) y fullShare v) ∗ tabPt c tab2 t2
        ∗ (iprop(owns (c : Thread nD τ) y fullShare (k0_pay1 : Vec F S256x16x128 .i32) ∗ tabPt c tab2 t2) -∗ K ⟨⟩))
      ⊢ wp frame (wpE (defs₀ (F := F)) Variants.none c none) E
          (cc0_moe_experts i tab0 (Memref.isWhole_whole _) tab1 (Memref.isWhole_whole _) tab2 (Memref.isWhole_whole _) x hx g hg u hu d hd y hy
            scr0 (Memref.isWhole_whole _) scr1 (Memref.isWhole_whole _) scr2 (Memref.isWhole_whole _)) K := by
  simp only [cc0_moe_experts_eq_skeleton]; unfold cc0_moe_experts_skel
  unfold owns
  iintro ⟨⟨%v, %f, -, H4⟩, HT2, Hk⟩
  subst hn
  sl_exec
  sl_step
  iapply Hk
  isplitl [H4]
  · iexists _; isplitr; swap; · iexact H4
    ipureintro
    exact View.read_writes_full y.view f _ _ _
  iexact HT2

/-- A used grid point whose tile has the expert of the tile before it: the weights in scratch are used as they are. -/
theorem body_again (c : Dev nD) (i : grid0.Coords)
    (x : Memref sig .tc .vmem S256x16x128 .i32) (hx : x.IsWhole)
    (g : Memref sig .tc .vmem S1x1x4096x256 .f32) (hg : g.IsWhole)
    (u : Memref sig .tc .vmem S1x1x4096x256 .f32) (hu : u.IsWhole)
    (d : Memref sig .tc .vmem S1x1x256x4096 .f32) (hd : d.IsWhole)
    (y : Memref sig .tc .vmem S256x16x128 .i32) (hy : y.IsWhole)
    (t1 : TabBuf (F := F) c tab1) (t2 : TabBuf (F := F) c tab2) (n : Elt F .i32) (hn : t2 = fun _ => n)
    (hused : k0_cond1 i n = 1#1) (hrest : ¬ k0_cond3 i n = 1#1)
    (w : Elt F .i32) (hw : tab1.view.readAt (Elt F) (Rect.unit (s := S320) (k0_off2 i) S1.size (k0_off2_inb i)).toLoadRect t1 = fun _ => w)
    (hfirst : ¬ firstTest (F := F) w = 1#1)
    (vx : Vec F S256x16x128 .i32) (sg su : Vec F S4096x256 .bf16) (sd : Vec F S256x4096 .bf16)
    (E : Set ℕ) (K : PUnit → sProp 𝕄) :
    iprop(owns (c : Thread nD τ) x fullShare vx ∗ (∃ v, owns (c : Thread nD τ) y fullShare v)
        ∗ owns (c : Thread nD τ) scr0 fullShare sg ∗ owns (c : Thread nD τ) scr1 fullShare su ∗ owns (c : Thread nD τ) scr2 fullShare sd
        ∗ tabPt c tab1 t1 ∗ tabPt c tab2 t2
        ∗ (iprop(owns (c : Thread nD τ) x fullShare vx ∗ owns (c : Thread nD τ) y fullShare (tileOut vx sg su sd)
            ∗ owns (c : Thread nD τ) scr0 fullShare sg ∗ owns (c : Thread nD τ) scr1 fullShare su ∗ owns (c : Thread nD τ) scr2 fullShare sd
            ∗ tabPt c tab1 t1 ∗ tabPt c tab2 t2) -∗ K ⟨⟩))
      ⊢ wp frame (wpE (defs₀ (F := F)) Variants.none c none) E
          (cc0_moe_experts i tab0 (Memref.isWhole_whole _) tab1 (Memref.isWhole_whole _) tab2 (Memref.isWhole_whole _) x hx g hg u hu d hd y hy
            scr0 (Memref.isWhole_whole _) scr1 (Memref.isWhole_whole _) scr2 (Memref.isWhole_whole _)) K := by
  simp only [cc0_moe_experts_eq_skeleton]; unfold cc0_moe_experts_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%fx, %hfx, H0⟩, ⟨%v, %f, -, H4⟩, ⟨%f0, %hf0, S0⟩, ⟨%f1, %hf1, S1⟩, ⟨%f2, %hf2, S2⟩, HT1, HT2, Hk⟩
  obtain rfl := hx.eq_unread hfx
  obtain rfl := (Memref.isWhole_whole _ : scr0.IsWhole).eq_unread hf0
  obtain rfl := (Memref.isWhole_whole _ : scr1.IsWhole).eq_unread hf1
  obtain rfl := (Memref.isWhole_whole _ : scr2.IsWhole).eq_unread hf2
  subst hn
  sl_exec
  sl_step
  iapply Hk
  isplitl [H0]
  · iexists _; isplitr; swap; · iexact H0
    ipureintro; exact hfx
  isplitl [H4]
  · iexists _; isplitr; swap; · iexact H4
    ipureintro
    refine (View.read_writes_full y.view f _ _ _).trans ?_
    have ex := (View.readAt_full x.view (hx.unread vx) inb_S256x16x128_S256x16x128_0_0_0).trans hfx
    have e0 := (View.readAt_full scr0.view _ inb_S4096x256_S4096x256_0_0).trans hf0
    have e1 := (View.readAt_full scr1.view _ inb_S4096x256_S4096x256_0_0).trans hf1
    have e2 := (View.readAt_full scr2.view _ inb_S256x4096_S256x4096_0_0).trans hf2
    conv => rhs; rw [← ex, ← e0, ← e1, ← e2]

    dsimp only
    unfold tileOut outTile xTile gTile
    dsimp only
    rfl
  isplitl [S0]
  · iexists _; isplitr; swap; · iexact S0
    ipureintro; exact hf0
  isplitl [S1]
  · iexists _; isplitr; swap; · iexact S1
    ipureintro; exact hf1
  isplitl [S2]
  · iexists _; isplitr; swap; · iexact S2
    ipureintro; exact hf2
  isplitl [HT1]
  · iexact HT1
  iexact HT2

/-- A used grid point whose tile is the first of its expert: the weights are rounded into scratch, then used. -/
theorem body_first (c : Dev nD) (i : grid0.Coords)
    (x : Memref sig .tc .vmem S256x16x128 .i32) (hx : x.IsWhole)
    (g : Memref sig .tc .vmem S1x1x4096x256 .f32) (hg : g.IsWhole)
    (u : Memref sig .tc .vmem S1x1x4096x256 .f32) (hu : u.IsWhole)
    (d : Memref sig .tc .vmem S1x1x256x4096 .f32) (hd : d.IsWhole)
    (y : Memref sig .tc .vmem S256x16x128 .i32) (hy : y.IsWhole)
    (t1 : TabBuf (F := F) c tab1) (t2 : TabBuf (F := F) c tab2) (n : Elt F .i32) (hn : t2 = fun _ => n)
    (hused : k0_cond1 i n = 1#1) (hrest : ¬ k0_cond3 i n = 1#1)
    (w : Elt F .i32) (hw : tab1.view.readAt (Elt F) (Rect.unit (s := S320) (k0_off2 i) S1.size (k0_off2_inb i)).toLoadRect t1 = fun _ => w)
    (hfirst : firstTest (F := F) w = 1#1)
    (vx : Vec F S256x16x128 .i32) (vg vu : Vec F S1x1x4096x256 .f32) (vd : Vec F S1x1x256x4096 .f32)
    (E : Set ℕ) (K : PUnit → sProp 𝕄) :
    iprop(owns (c : Thread nD τ) x fullShare vx ∗ owns (c : Thread nD τ) g fullShare vg ∗ owns (c : Thread nD τ) u fullShare vu ∗ owns (c : Thread nD τ) d fullShare vd
        ∗ (∃ v, owns (c : Thread nD τ) y fullShare v)
        ∗ (∃ v, owns (c : Thread nD τ) scr0 fullShare v) ∗ (∃ v, owns (c : Thread nD τ) scr1 fullShare v) ∗ (∃ v, owns (c : Thread nD τ) scr2 fullShare v)
        ∗ tabPt c tab1 t1 ∗ tabPt c tab2 t2
        ∗ (iprop(owns (c : Thread nD τ) x fullShare vx ∗ owns (c : Thread nD τ) g fullShare vg ∗ owns (c : Thread nD τ) u fullShare vu ∗ owns (c : Thread nD τ) d fullShare vd
            ∗ owns (c : Thread nD τ) y fullShare (tileOut vx (k0_pay2 vg) (k0_pay3 vu) (k0_pay4 vd))
            ∗ owns (c : Thread nD τ) scr0 fullShare (k0_pay2 vg) ∗ owns (c : Thread nD τ) scr1 fullShare (k0_pay3 vu)
            ∗ owns (c : Thread nD τ) scr2 fullShare (k0_pay4 vd)
            ∗ tabPt c tab1 t1 ∗ tabPt c tab2 t2) -∗ K ⟨⟩))
      ⊢ wp frame (wpE (defs₀ (F := F)) Variants.none c none) E
          (cc0_moe_experts i tab0 (Memref.isWhole_whole _) tab1 (Memref.isWhole_whole _) tab2 (Memref.isWhole_whole _) x hx g hg u hu d hd y hy
            scr0 (Memref.isWhole_whole _) scr1 (Memref.isWhole_whole _) scr2 (Memref.isWhole_whole _)) K := by
  simp only [cc0_moe_experts_eq_skeleton]; unfold cc0_moe_experts_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%fx, %hfx, H0⟩, ⟨%fg, %hfg, H1⟩, ⟨%fu, %hfu, H2⟩, ⟨%fd, %hfd, H3⟩, ⟨%v, %f, -, H4⟩, ⟨%v0, %f0, -, S0⟩, ⟨%v1, %f1, -, S1⟩,
    ⟨%v2, %f2, -, S2⟩, HT1, HT2, Hk⟩
  obtain rfl := hx.eq_unread hfx
  obtain rfl := hg.eq_unread hfg
  obtain rfl := hu.eq_unread hfu
  obtain rfl := hd.eq_unread hfd
  subst hn
  sl_exec
  have ex := (View.readAt_full x.view (hx.unread vx) inb_S256x16x128_S256x16x128_0_0_0).trans hfx
  have eg := (View.readAt_full g.view (hg.unread vg) inb_S1x1x4096x256_S1x1x4096x256_0_0_0_0).trans hfg
  have eu := (View.readAt_full u.view (hu.unread vu) inb_S1x1x4096x256_S1x1x4096x256_0_0_0_0).trans hfu
  have ed := (View.readAt_full d.view (hd.unread vd) inb_S1x1x256x4096_S1x1x256x4096_0_0_0_0).trans hfd

  sl_step
  iapply Hk
  isplitl [H0]
  · iexists _; isplitr; swap; · iexact H0
    ipureintro; exact hfx
  isplitl [H1]
  · iexists _; isplitr; swap; · iexact H1
    ipureintro; exact hfg
  isplitl [H2]
  · iexists _; isplitr; swap; · iexact H2
    ipureintro; exact hfu
  isplitl [H3]
  · iexists _; isplitr; swap; · iexact H3
    ipureintro; exact hfd
  isplitl [H4]
  · iexists _; isplitr; swap; · iexact H4
    ipureintro
    refine (View.read_writes_full y.view f _ _ _).trans ?_
    have c0 : body_first.sl.v145 c g hg vg = k0_pay2 vg :=
      (View.readCov_full scr0.view inb_S4096x256_S4096x256_0_0 _ _ _).trans (congrArg k0_pay2 eg)
    have c1 : body_first.sl.v147 c u hu vu = k0_pay3 vu :=
      (View.readCov_full scr1.view inb_S4096x256_S4096x256_0_0 _ _ _).trans (congrArg k0_pay3 eu)
    have c2 : body_first.sl.v153 c d hd vd = k0_pay4 vd :=
      (View.readCov_full scr2.view inb_S256x4096_S256x4096_0_0 _ _ _).trans (congrArg k0_pay4 ed)
    dsimp only
    rw [c0, c1, c2]
    conv => rhs; rw [← ex]
    unfold tileOut outTile xTile gTile
    dsimp only
    rfl
  isplitl [S0]
  · iexists _; isplitr; swap; · iexact S0
    ipureintro
    refine (View.read_writes_full scr0.view f0 _ _ _).trans ?_
    conv => rhs; rw [← eg]
  isplitl [S1]
  · iexists _; isplitr; swap; · iexact S1
    ipureintro
    refine (View.read_writes_full scr1.view f1 _ _ _).trans ?_
    conv => rhs; rw [← eu]
  isplitl [S2]
  · iexists _; isplitr; swap; · iexact S2
    ipureintro
    refine (View.read_writes_full scr2.view f2 _ _ _).trans ?_
    conv => rhs; rw [← ed]
  isplitl [HT1]
  · iexact HT1
  iexact HT2

end Cert.Kernel.Run

end
-- ==== Proof.Tables.lean ====
module

public import proofs.«01_k».proof.Proof.Body
public import Idealize.ShloMosaic.Lib.Pipeline.Kit
public import Idealize.ShloMosaic.Lib.Pipeline.Frame
public import Idealize.ShloMosaic.Lib.Claim
public import Idealize.ShloMosaic.Lib.StableHlo.Run
public import Idealize.ShloMosaic.Lib.Pointwise

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.WordCmp
open Cert.Kernel.Gen

variable {F : FTy → Type} [BitOps F]

local notation "𝕄" => MT nD τ sig Unit (Elt F) ℕ (UR sig nD τ) ℕ

variable (m : (ℓ : Loc nD τ sig) → Buf (Elt F) ℓ)

/-! ## What the pipeline finds -/

/-- A buffer of core `c` when the pipeline starts: as the host operations before it leave it. -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

set_option maxHeartbeats 800000 in
/-- The program is the host operations, then the pipeline. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is found as it was launched. -/
theorem V_unwritten (c : Dev nD) (b : Ref sig .tc)
    (h : ∀ r ∈ ([main_c, main_v0, main_v1, main_v2, main_v3, main_v4, main_v5, main_v6] : List (Ref sig .tc)), b ≠ r) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (h _ (by simp))))

theorem V_arg0 (c : Dev nD) : V m c main_arg0 = m ((c : Thread nD τ).loc main_arg0) := V_unwritten m c _ (by decide)
theorem V_arg1 (c : Dev nD) : V m c main_arg1 = m ((c : Thread nD τ).loc main_arg1) := V_unwritten m c _ (by decide)
theorem V_arg2 (c : Dev nD) : V m c main_arg2 = m ((c : Thread nD τ).loc main_arg2) := V_unwritten m c _ (by decide)
theorem V_arg3 (c : Dev nD) : V m c main_arg3 = m ((c : Thread nD τ).loc main_arg3) := V_unwritten m c _ (by decide)
theorem V_arg4 (c : Dev nD) : V m c main_arg4 = m ((c : Thread nD τ).loc main_arg4) := V_unwritten m c _ (by decide)
theorem V_arg5 (c : Dev nD) : V m c main_arg5 = m ((c : Thread nD τ).loc main_arg5) := V_unwritten m c _ (by decide)

/-! ## The tables -/

/-- Tile `i`'s expert, and the number of tiles in use. -/
def teW (i : Fin 320) : BitVec 32 := (m (((0 : Dev nD) : Thread nD τ).loc main_arg0) : S320.Idx → BitVec 32) (ix1 i)
def nW : BitVec 32 := (m (((0 : Dev nD) : Thread nD τ).loc main_arg1) : S_.Idx → BitVec 32) (fun a => a.elim0)

/-- The tables' words are in range. -/
structure Good : Prop where
  te : ∀ i, (teW m i).toNat < 64
  n_pos : 1 ≤ (nW m).toNat
  n_le : (nW m).toNat ≤ 320

/-- The tables when the pipeline starts. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

theorem tbl0 (i : Fin 320) : (tbl m 0 : S320.Idx → BitVec 32) (ix1 i) = teW m i := by
  show (V m 0 main_arg0 : S320.Idx → BitVec 32) (ix1 i) = _
  rw [V_arg0]; rfl

theorem V_v6 (c : Dev nD) : V m c main_v6 = shapeCast S1 (m ((c : Thread nD τ).loc main_arg1) : S_.Idx → BitVec 32) shapeCasts_S_S1 := by
  unfold_abbrev_sides; after_results; try rfl

theorem tbl2 : (tbl m 2 : S1.Idx → BitVec 32) = fun _ => nW m := by
  show (V m 0 main_v6 : S1.Idx → BitVec 32) = _
  rw [V_v6]
  funext j
  unfold nW
  exact congrArg (m (((0 : Dev nD) : Thread nD τ).loc main_arg1) : S_.Idx → BitVec 32) (funext fun a => a.elim0)

/-- The second table marks the tiles that start an expert. -/
def firstW (i : Fin 320) : BitVec 32 :=
  if h : i.val < 1 then 1#32
  else (IntOp.cmpi .ne (teW m i) (teW m ⟨i.val - 1, by omega⟩)).setWidth 32

theorem V_v5 (c : Dev nD) : V m c main_v5
    = concatenate S320 0 [⟨S1, broadcastInDim S1 ![] bcast_S_S1 (constantI S_ 32 1#32)⟩,
        ⟨S319, extui 32 (cmpi .ne
          (extractStridedSlice S319 ![1] (m ((c : Thread nD τ).loc main_arg0) : S320.Idx → BitVec 32) slices_S320_S319_1)
          (extractStridedSlice S319 ![0] (m ((c : Thread nD τ).loc main_arg0) : S320.Idx → BitVec 32) slices_S320_S319_0)) natLt_1_32⟩]
        concatenates_S1_S319_S320_d0 := by
  unfold_abbrev_sides; after_results; try rfl

theorem tbl1 (i : Fin 320) : (tbl m 1 : S320.Idx → BitVec 32) (ix1 i) = firstW m i := by
  show (V m 0 main_v5 : S320.Idx → BitVec 32) (ix1 i) = _
  rw [V_v5]
  unfold firstW teW
  pointwise
  by_cases h : i.val < 1
  · rw [dif_pos h, dif_pos h]
  · rw [dif_neg h, dif_neg h]
    congr 4
    apply Fin.ext; show 1 + (i.val - 1) = i.val; omega

/-! ## The conditions the body tests -/

theorem coords_val (t : Fin grid0.N) : (grid0.coords t 0).val = t.val := by
  have h := Pipeline.Grid.coords_val (G := grid0) t 0 (S := 1) (B := 320) (by decide) rfl
  have h2 : t.val < 320 := lt_of_lt_of_eq t.isLt N_0; omega

theorem cond1_iff (hG : Good m) (i : grid0.Coords) : k0_cond1 i (nW m) = 1#1 ↔ (i 0).val < (nW m).toNat := by
  have h2 := hG.n_le
  have h1 : (i 0).val < 320 := (i 0).isLt
  unfold k0_cond1
  dsimp only
  have e : Scalar.cmpi .slt (BitVec.ofNat 32 (i 0).val) (nW m) = BitVec.ofBool (decide ((i 0).val < (nW m).toNat)) := by
    show IntOp.cmpi .slt _ _ = _
    rw [cmpi_slt_of_lt (by rw [toNat_ofNat_of_lt (by omega)]; omega) (by omega), toNat_ofNat_of_lt (by omega)]
  rw [e]
  by_cases h : (i 0).val < (nW m).toNat
  · simp only [h, decide_true]; exact ⟨fun _ => trivial, fun _ => rfl⟩
  · simp only [h, decide_false]; exact ⟨fun c => absurd c (by decide), fun c => c.elim⟩

theorem cond3_iff (hG : Good m) (i : grid0.Coords) : k0_cond3 i (nW m) = 1#1 ↔ ¬ (i 0).val < (nW m).toNat := by
  have h2 := hG.n_le
  have h1 : (i 0).val < 320 := (i 0).isLt
  unfold k0_cond3
  dsimp only
  have e : Scalar.cmpi .sge (BitVec.ofNat 32 (i 0).val) (nW m) = BitVec.ofBool (decide ((nW m).toNat ≤ (i 0).val)) := by
    show IntOp.cmpi .sge _ _ = _
    rw [cmpi_sge_of_lt (by rw [toNat_ofNat_of_lt (by omega)]; omega) (by omega), toNat_ofNat_of_lt (by omega)]
  rw [e, Nat.not_lt]
  by_cases h : (nW m).toNat ≤ (i 0).val
  · simp only [h, decide_true]; exact ⟨fun _ => trivial, fun _ => rfl⟩
  · simp only [h, decide_false]; exact ⟨fun c => absurd c (by decide), fun c => c.elim⟩

theorem firstTest_iff (i : Fin 320) :
    firstTest (F := F) (firstW m i) = 1#1 ↔ i.val < 1 ∨ ∃ h : ¬ i.val < 1, teW m i ≠ teW m ⟨i.val - 1, by omega⟩ := by
  unfold firstW
  by_cases h : i.val < 1
  · rw [dif_pos h]; exact ⟨fun _ => .inl h, fun _ => rfl⟩
  · rw [dif_neg h, cmpi_ne_eq]
    by_cases e : teW m i = teW m ⟨i.val - 1, by omega⟩
    · simp only [ne_eq, e, not_true_eq_false, decide_false]
      exact ⟨fun c => absurd (show (0#1) = 1#1 from c) (by decide), fun c => c.elim (fun c => absurd c h) fun ⟨_, c⟩ => c.elim⟩
    · simp only [ne_eq, e, not_false_eq_true, decide_true]
      exact ⟨fun _ => .inr ⟨h, trivial⟩, fun _ => rfl⟩

/-- The word the body loads from the second table is the grid point's. -/
theorem load_first (i : grid0.Coords) :
    tab1.view.readAt (Elt F) (Rect.unit (s := S320) (k0_off2 i) S1.size (k0_off2_inb i)).toLoadRect (tbl m 1)
      = fun _ => firstW m (i 0) := by
  funext x
  have h1 : (i 0).val < 320 := (i 0).isLt
  refine Eq.trans ?_ (tbl1 m (i 0))
  refine congrArg (tbl m 1 : S320.Idx → BitVec 32) (funext fun a => ?_)
  match a with
  | ⟨0, _⟩ =>
    apply Fin.ext
    have hx : (x 0).val < 1 := (x 0).isLt
    show (BitVec.ofNat 32 (i 0).val).toNat + 1 * (x 0).val = (i 0).val
    rw [toNat_ofNat_of_lt (by omega)]; omega

/-! ## The windows' blocks lie in their arrays -/

theorem at2 (inb : ∀ a, (![0] : Fin 1 → Nat) a + S1.size a ≤ S1.size a) (h1 : S1.numel = 1) :
    (tbl m).at 2 (Rect.unit (s := S1) ![0] S1.size inb) h1 = nW m :=
  congrFun (tbl2 m) _

theorem at0 (i : grid0.Coords) (inb : ∀ a, (k0_off1 i) a + S1.size a ≤ S320.size a) (h1 : S1.numel = 1) :
    (tbl m).at 0 (Rect.unit (s := S320) (k0_off1 i) S1.size inb) h1 = teW m (i 0) := by
  have h : (i 0).val < 320 := (i 0).isLt
  refine Eq.trans ?_ (tbl0 m (i 0))
  refine congrArg (tbl m 0 : S320.Idx → BitVec 32) (funext fun a => ?_)
  match a with
  | ⟨0, _⟩ =>
    apply Fin.ext
    show (BitVec.ofNat 32 (i 0).val).toNat + 0 = (i 0).val
    rw [toNat_ofNat_of_lt (by omega)]; rfl

theorem tile_index (hG : Good m) (i : grid0.Coords) :
    (Scalar.minsi (BitVec.ofNat 32 (i 0).val) (Scalar.subi (nW m) 1#32)).toNat = min (i 0).val ((nW m).toNat - 1) := by
  have h2 := hG.n_le; have h3 := hG.n_pos
  have h1 : (i 0).val < 320 := (i 0).isLt
  have e : (Scalar.subi (nW m) 1#32).toNat = (nW m).toNat - 1 := by
    show (nW m - 1#32).toNat = _
    rw [BitVec.toNat_sub]; show (2 ^ 32 - 1 + (nW m).toNat) % 2 ^ 32 = _; omega
  have ei : (BitVec.ofNat 32 (i 0).val).toNat = (i 0).val := toNat_ofNat_of_lt (by omega)
  show (IntOp.minsi _ _).toNat = _
  unfold IntOp.minsi
  have es : (BitVec.ofNat 32 (i 0).val).slt (Scalar.subi (nW m) 1#32) = decide ((i 0).val < (nW m).toNat - 1) := by
    show decide (_ < _) = _
    rw [toInt_eq_toNat_of_lt_half (by rw [ei]; omega), toInt_eq_toNat_of_lt_half (by rw [e]; omega), ei, e]
    exact decide_eq_decide.mpr Int.ofNat_lt
  rw [es]
  by_cases h : (i 0).val < (nW m).toNat - 1
  · rw [if_pos (by simp [h]), ei]; omega
  · rw [if_neg (by simp [h]), e]; omega

theorem ok_tbl (hG : Good m) : ok0 (F := F) (tbl m) := by
  refine ⟨fun i => ⟨?_, .inl rfl⟩, fun i => ⟨?_, .inl rfl⟩, fun i => ⟨?_, .inl rfl⟩, fun i => ⟨?_, .inl rfl⟩⟩
  · have h := tile_index m hG i
    have h1 : (i 0).val < 320 := (i 0).isLt
    intro a
    unfold cc0_transform_0
    dsimp only
    rw [at2, h]
    match a with
    | 0 => show (min (i 0).val ((nW m).toNat - 1) + 1) * 256 ≤ 81920; omega
    | 1 => exact Nat.le_of_eq rfl
    | 2 => exact Nat.le_of_eq rfl
  · have h := hG.te (i 0)
    intro a
    unfold cc0_transform_1
    dsimp only
    erw [at0 m i]
    match a with
    | 0 => show (1 + 1) * 1 ≤ 2; omega
    | 1 => show ((teW m (i 0)).toNat + 1) * 1 ≤ 64; omega
    | 2 => show (0 + 1) * 4096 ≤ 4096; omega
    | 3 => show (0 + 1) * 256 ≤ 256; omega
  · have h := hG.te (i 0)
    intro a
    unfold cc0_transform_2
    dsimp only
    erw [at0 m i]
    match a with
    | 0 => show (1 + 1) * 1 ≤ 2; omega
    | 1 => show ((teW m (i 0)).toNat + 1) * 1 ≤ 64; omega
    | 2 => show (0 + 1) * 4096 ≤ 4096; omega
    | 3 => show (0 + 1) * 256 ≤ 256; omega
  · have h := hG.te (i 0)
    intro a
    unfold cc0_transform_3
    dsimp only
    erw [at0 m i]
    match a with
    | 0 => show (1 + 1) * 1 ≤ 2; omega
    | 1 => show ((teW m (i 0)).toNat + 1) * 1 ≤ 64; omega
    | 2 => show (0 + 1) * 256 ≤ 256; omega
    | 3 => show (0 + 1) * 4096 ≤ 4096; omega

end Cert.Kernel.Run

end
-- ==== Proof.KernelBody.lean ====
module

public import proofs.«01_k».proof.Proof.Tables
public import Idealize.ShloMosaic.Lib.Pipeline.FrameBody
public import Idealize.ShloMosaic.Lib.Pipeline.Value

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg) (hG : Good m)

/-- The pipeline at the tables found. -/
abbrev adm : (pcfg0 (F := F)).Adm := ⟨tbl m, ok_tbl m hG⟩
abbrev cfgM : Pipeline.Cfg sig Λ₀ := cfg0 (adm m hG)

/-- The halves of the tables that the body may read, table by table. -/
theorem tables_eq (c : Dev nD) :
    (Pipeline.ΦT pre0 (tbl m) c : sProp 𝕄) = iprop(tabPt c tab0 (tbl m 0) ∗ tabPt c tab1 (tbl m 1) ∗ tabPt c tab2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the pipeline leaves to the body: the scratch buffers and the generator's register. -/
theorem rest_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- Window `w`'s block at point `t`, read off its array. -/
def iblk (c : Dev nD) (w : Fin (cfgM m hG).W) (t : Fin (cfgM m hG).N) :
    (((cfgM m hG).win w).xblock ((cfgM m hG).grid.coords t)).Idx → Elt F ((cfgM m hG).win w).elt :=
  (((cfgM m hG).win w).blk t).view.read (Elt F) (V m c (Pipeline.arrRef spec0 w))

/-- The four input blocks at a point, as vectors. -/
def bx (c : Dev nD) (t : Fin grid0.N) : Vec F S256x16x128 .i32 := iblk m hG c 0 t
def bg (c : Dev nD) (t : Fin grid0.N) : Vec F S1x1x4096x256 .f32 := iblk m hG c 1 t
def bu (c : Dev nD) (t : Fin grid0.N) : Vec F S1x1x4096x256 .f32 := iblk m hG c 2 t
def bd (c : Dev nD) (t : Fin grid0.N) : Vec F S1x1x256x4096 .f32 := iblk m hG c 3 t

/-- An expert's matrix in a pair of layers' worth of experts: the second layer's. -/
def wBlk {α : Type} {a b : Nat} (X : (⟨4, ![2, 64, a, b]⟩ : Shape).Idx → α) (e : Fin 64) : (⟨4, ![1, 1, a, b]⟩ : Shape).Idx → α :=
  fun j => X (ix4 (1 : Fin 2) e (j 2) (j 3))

/-- A grid point as a tile number, and its expert. -/
abbrev tl (t : Fin grid0.N) : Fin 320 := ⟨t.val, lt_of_lt_of_eq t.isLt N_0⟩
def eF (hG : Good m) (i : Fin 320) : Fin 64 := ⟨(teW m i).toNat, hG.te i⟩

theorem coords_tl (t : Fin grid0.N) : grid0.coords t 0 = tl t := Fin.ext (coords_val t)

theorem bg_eq (c : Dev nD) (t : Fin grid0.N) :
    bg m hG c t = wBlk (a := 4096) (b := 256) (m ((c : Thread nD τ).loc main_arg3)) (eF m hG (tl t)) := by
  funext j
  refine (congrFun (V_arg3 m c) ((((cfgM m hG).win 1).blk t).view.emb j)).trans ?_
  refine congrArg (m ((c : Thread nD τ).loc main_arg3)) (funext fun a => ?_)
  have e := at0 m (grid0.coords t) (k0_off1_inb (grid0.coords t)) numel1_S1
  rw [coords_tl] at e
  apply Fin.ext
  match a with
  | ⟨0, _⟩ =>
    have h0 : (j 0).val < 1 := (j 0).isLt
    show 1 * 1 + 1 * (j 0).val = 1; omega
  | ⟨1, _⟩ =>
    have h0 : (j 1).val < 1 := (j 1).isLt
    show ((tbl m).at 0 (Rect.unit (s := S320) (k0_off1 (grid0.coords t)) S1.size (k0_off1_inb (grid0.coords t))) numel1_S1 : BitVec 32).toNat * 1 + 1 * (j 1).val = (teW m (tl t)).toNat
    erw [e]; omega
  | ⟨2, _⟩ => show 0 * 4096 + 1 * (j 2).val = (j 2).val; omega
  | ⟨3, _⟩ => show 0 * 256 + 1 * (j 3).val = (j 3).val; omega

theorem bu_eq (c : Dev nD) (t : Fin grid0.N) :
    bu m hG c t = wBlk (a := 4096) (b := 256) (m ((c : Thread nD τ).loc main_arg4)) (eF m hG (tl t)) := by
  funext j
  refine (congrFun (V_arg4 m c) ((((cfgM m hG).win 2).blk t).view.emb j)).trans ?_
  refine congrArg (m ((c : Thread nD τ).loc main_arg4)) (funext fun a => ?_)
  have e := at0 m (grid0.coords t) (k0_off1_inb (grid0.coords t)) numel1_S1
  rw [coords_tl] at e
  apply Fin.ext
  match a with
  | ⟨0, _⟩ =>
    have h0 : (j 0).val < 1 := (j 0).isLt
    show 1 * 1 + 1 * (j 0).val = 1; omega
  | ⟨1, _⟩ =>
    have h0 : (j 1).val < 1 := (j 1).isLt
    show ((tbl m).at 0 (Rect.unit (s := S320) (k0_off1 (grid0.coords t)) S1.size (k0_off1_inb (grid0.coords t))) numel1_S1 : BitVec 32).toNat * 1 + 1 * (j 1).val = (teW m (tl t)).toNat
    erw [e]; omega
  | ⟨2, _⟩ => show 0 * 4096 + 1 * (j 2).val = (j 2).val; omega
  | ⟨3, _⟩ => show 0 * 256 + 1 * (j 3).val = (j 3).val; omega

theorem bd_eq (c : Dev nD) (t : Fin grid0.N) :
    bd m hG c t = wBlk (a := 256) (b := 4096) (m ((c : Thread nD τ).loc main_arg5)) (eF m hG (tl t)) := by
  funext j
  refine (congrFun (V_arg5 m c) ((((cfgM m hG).win 3).blk t).view.emb j)).trans ?_
  refine congrArg (m ((c : Thread nD τ).loc main_arg5)) (funext fun a => ?_)
  have e := at0 m (grid0.coords t) (k0_off1_inb (grid0.coords t)) numel1_S1
  rw [coords_tl] at e
  apply Fin.ext
  match a with
  | ⟨0, _⟩ =>
    have h0 : (j 0).val < 1 := (j 0).isLt
    show 1 * 1 + 1 * (j 0).val = 1; omega
  | ⟨1, _⟩ =>
    have h0 : (j 1).val < 1 := (j 1).isLt
    show ((tbl m).at 0 (Rect.unit (s := S320) (k0_off1 (grid0.coords t)) S1.size (k0_off1_inb (grid0.coords t))) numel1_S1 : BitVec 32).toNat * 1 + 1 * (j 1).val = (teW m (tl t)).toNat
    erw [e]; omega
  | ⟨2, _⟩ => show 0 * 256 + 1 * (j 2).val = (j 2).val; omega
  | ⟨3, _⟩ => show 0 * 4096 + 1 * (j 3).val = (j 3).val; omega

theorem rows_index (hG : Good m) (t : Fin grid0.N) (hu : t.val < (nW m).toNat) :
    cc0_transform_0 inb_S1_S1_0 numel1_S1 (tbl m) (grid0.coords t) 0 = t.val := by
  have e := tile_index m hG (grid0.coords t)
  unfold cc0_transform_0
  dsimp only
  rw [at2]
  refine e.trans ?_
  rw [coords_val]; omega

/-- Where an entry of the rows' block lies in its array. -/
theorem rows_emb (a : (pcfg0 (F := F)).Adm) (t : Fin grid0.N) (j : S256x16x128.Idx) (k : Fin 3) :
    ((((cfg0 a).win 0).blk t).view.emb j k).val
      = cc0_transform_0 inb_S1_S1_0 numel1_S1 a.1 (grid0.coords t) k * S256x16x128.size k + 1 * (j k).val := rfl

/-- The row of the whole array that row `j` of tile `i` is. -/
def rowOf (i : Fin 320) (j : Fin 256) : Fin 81920 := ⟨i.val * 256 + j.val, by omega⟩

/-- At a used point the rows are the tile's own. -/
theorem bx_eq (c : Dev nD) (t : Fin grid0.N) (hu : t.val < (nW m).toNat) (j : S256x16x128.Idx) :
    bx m hG c t j = (m ((c : Thread nD τ).loc main_arg2) : S81920x16x128.Idx → BitVec 32) (ix3 (rowOf (tl t) (j 0)) (j 1) (j 2)) := by
  refine (congrFun (V_arg2 m c) ((((cfgM m hG).win 0).blk t).view.emb j)).trans ?_
  refine congrArg (m ((c : Thread nD τ).loc main_arg2)) (funext fun a => ?_)
  have e := rows_index m hG t hu
  generalize hr : rowOf (tl t) (j 0) = r
  have hr' : r.val = t.val * 256 + (j 0).val := by rw [← hr]; rfl
  apply Fin.ext
  refine (rows_emb (adm m hG) t j a).trans ?_
  match a with
  | ⟨0, _⟩ =>
    refine Eq.trans (congrArg (· * 256 + 1 * (j 0).val) e) ?_
    show t.val * 256 + 1 * (j 0).val = r.val
    omega
  | ⟨1, _⟩ => show 0 * 16 + 1 * (j 1).val = (j 1).val; omega
  | ⟨2, _⟩ => show 0 * 128 + 1 * (j 2).val = (j 2).val; omega

/-- What the body leaves in the output's buffer at a point. -/
def outAt (c : Dev nD) (t : Fin grid0.N) : Vec F S256x16x128 .i32 :=
  if t.val < (nW m).toNat then
    tileOut (bx m hG c t) (k0_pay2 (bg m hG c t)) (k0_pay3 (bu m hG c t)) (k0_pay4 (bd m hG c t))
  else k0_pay1

/-- What the scratch holds between points: after a used point, its expert's weights, rounded. -/
def carried (c : Dev nD) (k : Nat) (sg su : Vec F S4096x256 .bf16) (sd : Vec F S256x4096 .bf16) : Prop :=
  ∀ s : Fin grid0.N, s.val + 1 = k → s.val < (nW m).toNat →
    sg = k0_pay2 (bg m hG c s) ∧ su = k0_pay3 (bu m hG c s) ∧ sd = k0_pay4 (bd m hG c s)

def scratch (c : Dev nD) (k : Nat) : sProp 𝕄 :=
  iprop(∃ sg su sd, ⌜carried m hG c k sg su sd⌝ ∗ owns (c : Thread nD τ) scr0 fullShare sg ∗ owns (c : Thread nD τ) scr1 fullShare su
    ∗ owns (c : Thread nD τ) scr2 fullShare sd)

/-- At a used point that does not start an expert, the scratch already holds the expert's weights. -/
theorem carried_again (c : Dev nD) (t : Fin grid0.N) (hu : t.val < (nW m).toNat) (hf : ¬ firstTest (F := F) (firstW m (tl t)) = 1#1)
    (sg su : Vec F S4096x256 .bf16) (sd : Vec F S256x4096 .bf16) (h : carried m hG c t.val sg su sd) :
    sg = k0_pay2 (bg m hG c t) ∧ su = k0_pay3 (bu m hG c t) ∧ sd = k0_pay4 (bd m hG c t) := by
  rw [firstTest_iff, not_or, not_exists] at hf
  have ht : ¬ t.val < 1 := hf.1
  have he : teW m (tl t) = teW m ⟨t.val - 1, by have := lt_of_lt_of_eq t.isLt N_0; omega⟩ := not_not.mp (hf.2 ht)
  have hE : eF m hG (tl t) = eF m hG (tl ⟨t.val - 1, by have := t.isLt; omega⟩) := by
    apply Fin.ext
    show (teW m (tl t)).toNat = (teW m ⟨t.val - 1, _⟩).toNat
    rw [he]
  obtain ⟨h0, h1, h2⟩ := h ⟨t.val - 1, by have := t.isLt; omega⟩ (by show t.val - 1 + 1 = t.val; omega) (by show t.val - 1 < _; omega)
  rw [h0, h1, h2, bg_eq, bu_eq, bd_eq, bg_eq, bu_eq, bd_eq, hE]
  exact ⟨rfl, rfl, rfl⟩

/-- The pipeline's proof data. -/
def dats (_ : Fin 1) (c : Dev nD) : Dat τ (Elt F) Unit ℕ (UR sig nD τ) ℕ (cfgM m hG) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => outAt m hG c t
  Φ t := iprop(scratch m hG c t.val ∗ (∃ r, prngReg c r) ∗ Pipeline.ΦT pre0 (tbl m) c)
  q _ := fullShare
  owed _ := 0

theorem A_eq (c : Dev nD) (w : Fin (cfgM m hG).W) : (dats m hG 0 c).A w = V m c (Pipeline.arrRef spec0 w) := by
  dsimp only [dats]

theorem after_0 (c : Dev nD) (t : Fin (cfgM m hG).N) : (dats m hG 0 c).after 0 t = iblk m hG c 0 t := by dsimp only [dats]; try rfl
theorem after_1 (c : Dev nD) (t : Fin (cfgM m hG).N) : (dats m hG 0 c).after 1 t = iblk m hG c 1 t := by dsimp only [dats]; try rfl
theorem after_2 (c : Dev nD) (t : Fin (cfgM m hG).N) : (dats m hG 0 c).after 2 t = iblk m hG c 2 t := by dsimp only [dats]; try rfl
theorem after_3 (c : Dev nD) (t : Fin (cfgM m hG).N) : (dats m hG 0 c).after 3 t = iblk m hG c 3 t := by dsimp only [dats]; try rfl
theorem after_4 (c : Dev nD) (t : Fin (cfgM m hG).N) : (dats m hG 0 c).after 4 t = outAt m hG c t := by dsimp only [dats]; try rfl

/-- Each input's buffer holds its block at every point. -/
theorem before_0 (c : Dev nD) (t : Fin (cfgM m hG).N) (d) : (dats m hG 0 c).before 0 t d = iblk m hG c 0 t :=
  ((dats m hG 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m hG).N) (d) : (dats m hG 0 c).before 1 t d = iblk m hG c 1 t :=
  ((dats m hG 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m hG).N) (d) : (dats m hG 0 c).before 2 t d = iblk m hG c 2 t :=
  ((dats m hG 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m hG).N) (d) : (dats m hG 0 c).before 3 t d = iblk m hG c 3 t :=
  ((dats m hG 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body at a grid point -/

/-- Each window's staging buffer at a point. -/
abbrev st0 (t : Fin (cfgM m hG).N) : Memref sig .tc .vmem S256x16x128 .i32 := spec0_0.stage ((cfgM m hG).slots t 0)
abbrev st1 (t : Fin (cfgM m hG).N) : Memref sig .tc .vmem S1x1x4096x256 .f32 := spec0_1.stage ((cfgM m hG).slots t 1)
abbrev st2 (t : Fin (cfgM m hG).N) : Memref sig .tc .vmem S1x1x4096x256 .f32 := spec0_2.stage ((cfgM m hG).slots t 2)
abbrev st3 (t : Fin (cfgM m hG).N) : Memref sig .tc .vmem S1x1x256x4096 .f32 := spec0_3.stage ((cfgM m hG).slots t 3)
abbrev st4 (t : Fin (cfgM m hG).N) : Memref sig .tc .vmem S256x16x128 .i32 := spec0_4.stage ((cfgM m hG).slots t 4)

/-- The body as the pipeline calls it. -/
def bodyAt (t : Fin (cfgM m hG).N) : Prog (TpuEff nD τ sig (Elt F) Λ₀ .tc) PUnit :=
  cc0_moe_experts (grid0.coords t) tab0 (Memref.isWhole_whole _) tab1 (Memref.isWhole_whole _) tab2 (Memref.isWhole_whole _)
    (st0 m hG t) (hstage0_0 (((cfgM m hG).slots t 0).cast nbuf0_0))
    (st1 m hG t) (hstage0_1 (((cfgM m hG).slots t 1).cast nbuf0_1))
    (st2 m hG t) (hstage0_2 (((cfgM m hG).slots t 2).cast nbuf0_2))
    (st3 m hG t) (hstage0_3 (((cfgM m hG).slots t 3).cast nbuf0_3))
    (st4 m hG t) (hstage0_4 (((cfgM m hG).slots t 4).cast nbuf0_4))
    scr0 (Memref.isWhole_whole _) scr1 (Memref.isWhole_whole _) scr2 (Memref.isWhole_whole _)

def bodyPre (c : Dev nD) (t : Fin (cfgM m hG).N) : sProp 𝕄 :=
  iprop((dats m hG 0 c).Φ t.castSucc ∗ (dats m hG 0 c).owesAt () t.castSucc
    ∗ (∃ d, owns (c : Thread nD τ) (st0 m hG t) fullShare ((dats m hG 0 c).before 0 t d))
    ∗ (∃ d, owns (c : Thread nD τ) (st1 m hG t) fullShare ((dats m hG 0 c).before 1 t d))
    ∗ (∃ d, owns (c : Thread nD τ) (st2 m hG t) fullShare ((dats m hG 0 c).before 2 t d))
    ∗ (∃ d, owns (c : Thread nD τ) (st3 m hG t) fullShare ((dats m hG 0 c).before 3 t d))
    ∗ (∃ d, owns (c : Thread nD τ) (st4 m hG t) fullShare ((dats m hG 0 c).before 4 t d)))

def bodyPost (c : Dev nD) (t : Fin (cfgM m hG).N) : sProp 𝕄 :=
  iprop((dats m hG 0 c).Φ t.succ ∗ (dats m hG 0 c).owesAt () t.succ
    ∗ owns (c : Thread nD τ) (st0 m hG t) fullShare ((dats m hG 0 c).after 0 t)
    ∗ owns (c : Thread nD τ) (st1 m hG t) fullShare ((dats m hG 0 c).after 1 t)
    ∗ owns (c : Thread nD τ) (st2 m hG t) fullShare ((dats m hG 0 c).after 2 t)
    ∗ owns (c : Thread nD τ) (st3 m hG t) fullShare ((dats m hG 0 c).after 3 t)
    ∗ owns (c : Thread nD τ) (st4 m hG t) fullShare ((dats m hG 0 c).after 4 t))

theorem sound_body (c : Dev nD) (t : Fin (cfgM m hG).N) :
    bodyPre m hG c t ⊢ wp frame (wpE (defs₀ (F := F)) Variants.none c none) Set.univ (bodyAt m hG t) (fun _ => bodyPost m hG c t) := by
  unfold bodyPre bodyPost bodyAt
  simp only [before_0, before_1, before_2, before_3]
  rw [show (dats m hG 0 c).owesAt () t.succ = (dats m hG 0 c).owesAt () t.castSucc from rfl,
    show (dats m hG 0 c).Φ t.castSucc = iprop(scratch m hG c t.val ∗ (∃ r, prngReg c r) ∗ Pipeline.ΦT pre0 (tbl m) c) from rfl,
    show (dats m hG 0 c).Φ t.succ = iprop(scratch m hG c (t.val + 1) ∗ (∃ r, prngReg c r) ∗ Pipeline.ΦT pre0 (tbl m) c) from rfl,
    after_0, after_1, after_2, after_3, after_4, tables_eq]
  unfold scratch
  by_cases hu : t.val < (nW m).toNat
  · have h1 : k0_cond1 (grid0.coords t) (nW m) = 1#1 := (cond1_iff m hG _).2 (by rw [coords_val]; exact hu)
    have h3 : ¬ k0_cond3 (grid0.coords t) (nW m) = 1#1 := fun h => (cond3_iff m hG _).1 h (by rw [coords_val]; exact hu)
    have hw := load_first m (grid0.coords t)
    rw [coords_tl] at hw
    rw [show outAt m hG c t = tileOut (bx m hG c t) (k0_pay2 (bg m hG c t)) (k0_pay3 (bu m hG c t)) (k0_pay4 (bd m hG c t)) from if_pos hu]
    by_cases hf : firstTest (F := F) (firstW m (tl t)) = 1#1
    · iintro ⟨⟨⟨%sg, %su, %sd, -, S0, S1, S2⟩, Hg, T0, T1, T2⟩, Ho, ⟨%d0, H0⟩, ⟨%d1, H1⟩, ⟨%d2, H2⟩, ⟨%d3, H3⟩, ⟨%d4, H4⟩⟩
      iapply (body_first c (grid0.coords t) (st0 m hG t) _ (st1 m hG t) _ (st2 m hG t) _ (st3 m hG t) _ (st4 m hG t) _ (tbl m 1) (tbl m 2) (nW m) (tbl2 m) h1 h3
        (firstW m (tl t)) hw hf (bx m hG c t) (bg m hG c t) (bu m hG c t) (bd m hG c t) Set.univ _)
      isplitl [H0]; · iexact H0
      isplitl [H1]; · iexact H1
      isplitl [H2]; · iexact H2
      isplitl [H3]; · iexact H3
      isplitl [H4]; · iexists _; iexact H4
      isplitl [S0]; · iexists _; iexact S0
      isplitl [S1]; · iexists _; iexact S1
      isplitl [S2]; · iexists _; iexact S2
      isplitl [T1]; · iexact T1
      isplitl [T2]; · iexact T2
      iintro ⟨H0, H1, H2, H3, H4, S0, S1, S2, T1, T2⟩
      isplitl [S0 S1 S2 Hg T0 T1 T2]
      · isplitl [S0 S1 S2]
        · iexists _, _, _
          isplitr
          swap
          · isplitl [S0]; · iexact S0
            isplitl [S1]; · iexact S1
            iexact S2
          · ipureintro
            intro s hs _
            obtain rfl : s = t := Fin.ext (by omega)
            exact ⟨rfl, rfl, rfl⟩
        isplitl [Hg]; · iexact Hg
        isplitl [T0]; · iexact T0
        isplitl [T1]; · iexact T1
        iexact T2
      isplitl [Ho]; · iexact Ho
      isplitl [H0]; · iexact H0
      isplitl [H1]; · iexact H1
      isplitl [H2]; · iexact H2
      isplitl [H3]; · iexact H3
      iexact H4
    · iintro ⟨⟨⟨%sg, %su, %sd, %hc, S0, S1, S2⟩, Hg, T0, T1, T2⟩, Ho, ⟨%d0, H0⟩, ⟨%d1, H1⟩, ⟨%d2, H2⟩, ⟨%d3, H3⟩, ⟨%d4, H4⟩⟩
      obtain ⟨rfl, rfl, rfl⟩ := carried_again m hG c t hu hf sg su sd hc
      iapply (body_again c (grid0.coords t) (st0 m hG t) _ (st1 m hG t) _ (st2 m hG t) _ (st3 m hG t) _ (st4 m hG t) _ (tbl m 1) (tbl m 2) (nW m) (tbl2 m) h1 h3
        (firstW m (tl t)) hw hf (bx m hG c t) (k0_pay2 (bg m hG c t)) (k0_pay3 (bu m hG c t)) (k0_pay4 (bd m hG c t)) Set.univ _)
      isplitl [H0]; · iexact H0
      isplitl [H4]; · iexists _; iexact H4
      isplitl [S0]; · iexact S0
      isplitl [S1]; · iexact S1
      isplitl [S2]; · iexact S2
      isplitl [T1]; · iexact T1
      isplitl [T2]; · iexact T2
      iintro ⟨H0, H4, S0, S1, S2, T1, T2⟩
      isplitl [S0 S1 S2 Hg T0 T1 T2]
      · isplitl [S0 S1 S2]
        · iexists _, _, _
          isplitr
          swap
          · isplitl [S0]; · iexact S0
            isplitl [S1]; · iexact S1
            iexact S2
          · ipureintro
            intro s hs _
            obtain rfl : s = t := Fin.ext (by omega)
            exact ⟨rfl, rfl, rfl⟩
        isplitl [Hg]; · iexact Hg
        isplitl [T0]; · iexact T0
        isplitl [T1]; · iexact T1
        iexact T2
      isplitl [Ho]; · iexact Ho
      isplitl [H0]; · iexact H0
      isplitl [H1]; · iexact H1
      isplitl [H2]; · iexact H2
      isplitl [H3]; · iexact H3
      iexact H4
  · have h1 : ¬ k0_cond1 (grid0.coords t) (nW m) = 1#1 := fun h => hu (by rw [← coords_val t]; exact (cond1_iff m hG _).1 h)
    have h3 : k0_cond3 (grid0.coords t) (nW m) = 1#1 := (cond3_iff m hG _).2 (by rw [coords_val]; exact hu)
    rw [show outAt m hG c t = k0_pay1 from if_neg hu]
    iintro ⟨⟨⟨%sg, %su, %sd, -, S0, S1, S2⟩, Hg, T0, T1, T2⟩, Ho, ⟨%d0, H0⟩, ⟨%d1, H1⟩, ⟨%d2, H2⟩, ⟨%d3, H3⟩, ⟨%d4, H4⟩⟩
    iapply (body_unused c (grid0.coords t) (st0 m hG t) _ (st1 m hG t) _ (st2 m hG t) _ (st3 m hG t) _ (st4 m hG t) _ (tbl m 2) (nW m) (tbl2 m) h1 h3 Set.univ _)
    isplitl [H4]; · iexists _; iexact H4
    isplitl [T2]; · iexact T2
    iintro ⟨H4, T2⟩
    isplitl [S0 S1 S2 Hg T0 T1 T2]
    · isplitl [S0 S1 S2]
      · iexists _, _, _
        isplitr
        swap
        · isplitl [S0]; · iexact S0
          isplitl [S1]; · iexact S1
          iexact S2
        · ipureintro
          intro s hs hs'
          omega
      isplitl [Hg]; · iexact Hg
      isplitl [T0]; · iexact T0
      isplitl [T1]; · iexact T1
      iexact T2
    isplitl [Ho]; · iexact Ho
    isplitl [H0]; · iexact H0
    isplitl [H1]; · iexact H1
    isplitl [H2]; · iexact H2
    isplitl [H3]; · iexact H3
    iexact H4

theorem defs₀_row (t : Fin (cfgM m hG).N) :
    defs₀ (F := F) .tc (cfgM m hG).body ((cfgM m hG).bodyArgs t ((cfgM m hG).slots t)) = bodyAt m hG t := by
  unfold defs₀; rw [Defs.onTc_tc]; rfl

theorem idle_eq (a : (pcfg0 (F := F)).Adm) (i : grid0.Coords) : (cfg0 a).idle 4 i = idle0 a.1 4 i := rfl

/-- The output's block is stored when either condition holds. -/
theorem idle0_eq (pf : pre0.Contents (Elt F)) (w : BitVec 32) (h : pf.atD 2 ![0] = w) (i : grid0.Coords) :
    idle0 pf 4 i = (!(k0_cond1 i w == 1#1) && !(k0_cond3 i w == 1#1)) := by subst h; rfl

/-- The body stores into the output's buffer at every point. -/
theorem never_idle (t : Fin (cfgM m hG).N) : (cfgM m hG).idle 4 ((cfgM m hG).grid.coords t) = false := by
  have e : (tbl m).atD 2 ![0] = nW m := by
    unfold Pipeline.Prefetch.Contents.atD
    rw [dif_pos (by decide)]
    exact congrFun (tbl2 m) _
  refine (idle_eq (adm m hG) (grid0.coords t)).trans ((idle0_eq (tbl m) _ e _).trans ?_)
  by_cases h : (grid0.coords t 0).val < (nW m).toNat
  · rw [(cond1_iff m hG _).2 h]; rfl
  · rw [(cond3_iff m hG _).2 h, Bool.and_comm]; rfl

end Cert.Kernel.Run

end
-- ==== Proof.KernelRun.lean ====
module

public import proofs.«01_k».proof.Proof.KernelBody
public import Idealize.ShloMosaic.Lib.Pipeline.FrameBody
public import Idealize.ShloMosaic.Lib.Pipeline.Value

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg) (hG : Good m)

theorem stored (P Q : sProp 𝕄) : ∀ b : Bool, b = false → Q ⊢ match b with | true => P | false => Q
  | true, h => nomatch h
  | false, _ => .rfl

/-- The obligation with the five windows one by one, where the output is stored at every point. -/
theorem obligation_of (a : (pcfg0 (F := F)).Adm) (c : Dev nD) (dat : Dat τ (Elt F) Unit ℕ (UR sig nD τ) ℕ (cfg0 a) c)
    (hn : ∀ t : Fin (cfg0 a).N, (cfg0 a).idle 4 ((cfg0 a).grid.coords t) = false)
    (h : ∀ t : Fin (cfg0 a).N,
      iprop(dat.Φ t.castSucc ∗ dat.owesAt () t.castSucc
        ∗ (∃ d, owns (c : Thread nD τ) (((cfg0 a).win 0).stage ((cfg0 a).slots t 0)) fullShare (dat.before 0 t d))
        ∗ (∃ d, owns (c : Thread nD τ) (((cfg0 a).win 1).stage ((cfg0 a).slots t 1)) fullShare (dat.before 1 t d))
        ∗ (∃ d, owns (c : Thread nD τ) (((cfg0 a).win 2).stage ((cfg0 a).slots t 2)) fullShare (dat.before 2 t d))
        ∗ (∃ d, owns (c : Thread nD τ) (((cfg0 a).win 3).stage ((cfg0 a).slots t 3)) fullShare (dat.before 3 t d))
        ∗ (∃ d, owns (c : Thread nD τ) (((cfg0 a).win 4).stage ((cfg0 a).slots t 4)) fullShare (dat.before 4 t d)))
      ⊢ wp frame (wpE (defs₀ (F := F)) Variants.none c none) Set.univ (defs₀ (F := F) .tc (cfg0 a).body ((cfg0 a).bodyArgs t ((cfg0 a).slots t))) fun _ =>
        iprop(dat.Φ t.succ ∗ dat.owesAt () t.succ
          ∗ owns (c : Thread nD τ) (((cfg0 a).win 0).stage ((cfg0 a).slots t 0)) fullShare (dat.after 0 t)
          ∗ owns (c : Thread nD τ) (((cfg0 a).win 1).stage ((cfg0 a).slots t 1)) fullShare (dat.after 1 t)
          ∗ owns (c : Thread nD τ) (((cfg0 a).win 2).stage ((cfg0 a).slots t 2)) fullShare (dat.after 2 t)
          ∗ owns (c : Thread nD τ) (((cfg0 a).win 3).stage ((cfg0 a).slots t 3)) fullShare (dat.after 3 t)
          ∗ owns (c : Thread nD τ) (((cfg0 a).win 4).stage ((cfg0 a).slots t 4)) fullShare (dat.after 4 t))) :
    BodyObligation dat (defs₀ (F := F)) Variants.none () Set.univ := fun t => by
  rw [bigSep_W0, bigSep_W0]
  refine triple_restated (h t) rfl .rfl fun _ => ?_
  refine sep_mono .rfl (sep_mono .rfl (sep_mono .rfl (sep_mono .rfl (sep_mono .rfl (sep_mono .rfl ?_)))))
  exact stored (F := F) _ _ _ (hn t)

theorem body_obligation (c : Dev nD) : BodyObligation (dats (F := F) m hG 0 c) (defs₀ (F := F)) Variants.none () Set.univ :=
  obligation_of (adm m hG) c (dats m hG 0 c) (never_idle m hG) fun t => by
    rw [defs₀_row m hG]
    exact sound_body m hG c t

/-! ## The run -/

theorem start (c : Dev nD) : iprop(Pipeline.ΦA spec0 c ∗ Pipeline.ΦT pre0 (tbl m) c) ⊢ ((dats m hG 0 c).Φ 0 : sProp 𝕄) := by
  rw [rest_eq]
  show _ ⊢ iprop(scratch m hG c 0 ∗ (∃ r, prngReg c r) ∗ Pipeline.ΦT pre0 (tbl m) c)
  unfold scratch
  iintro ⟨⟨⟨⟨%a, H0⟩, ⟨%b, H1⟩, ⟨%d, H2⟩⟩, Hg⟩, HT⟩
  isplitl [H0 H1 H2]
  · iexists a, b, d
    isplitr
    · ipureintro; intro s hs; omega
    isplitl [H0]; · iexact H0
    isplitl [H1]; · iexact H1
    iexact H2
  isplitl [Hg]; · iexact Hg
  iexact HT

theorem finish (c : Dev nD) : ((dats m hG 0 c).Φ (Fin.last (cfgM m hG).N) : sProp 𝕄) ⊢ Pipeline.ΦA spec0 c := by
  rw [rest_eq]
  show iprop(scratch m hG c _ ∗ (∃ r, prngReg c r) ∗ Pipeline.ΦT pre0 (tbl m) c) ⊢ _
  unfold scratch
  iintro ⟨⟨%a, %b, %d, -, H0, H1, H2⟩, Hg, -⟩
  isplitl [H0 H1 H2]
  · isplitl [H0]; · iexists a; iexact H0
    isplitl [H1]; · iexists b; iexact H1
    iexists d; iexact H2
  iexact Hg

set_option backward.isDefEq.respectTransparency.types false in
set_option maxHeartbeats 800000 in
theorem run_main : θ_run defs (onTc (τ := τ) (main (F := F))) (s₀ m ρ) (fun r =>
    Pipeline.FramePost (Pipeline.pin pcfgs fun _ => adm m hG) (dats m hG) 0 (V m) r ∧ r.2.sem = fun _ => 0) :=
  Pipeline.θ_run_frameP_track (Q' := _) pcfgs (fun _ => adm m hG) (dats m hG) (0 : Fin 1) launch0 defs₀ Variants.none m ρ main
    (hbody := fun c => (body_obligation m hG c).loose) (hshare := fun c => (dats m hG 0 c).share_full fun _ => rfl)
    (howed := fun _ _ => rfl) (V := V m) (hmain := hmain m Variants.none) (hA := A_eq m hG) (hpf := V_pre m)
    (hin := start m hG) (hout := finish m hG)

end Cert.Kernel.Run

end
-- ==== Proof.KernelResult.lean ====
module

public import proofs.«01_k».proof.Proof.KernelRun

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg) (hG : Good m)

/-- An array the pipeline only reads ends as it was found. -/
theorem input_kept (c : Dev nD) (w : Fin 5) (h : (spec0 w).isOut = false) :
    (dats m hG 0 c).arrAt w (cfgM m hG).N = V m c (Pipeline.arrRef spec0 w) :=
  ((dats m hG 0 c).arrAt_in w h _).trans (A_eq m hG c w)

/-- The arguments end unchanged. -/
theorem args_kept {r : PUnit × MemSt nD τ sig (Elt F)}
    (h : Pipeline.FramePost (Pipeline.pin pcfgs fun _ => adm m hG) (dats m hG) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : _ ∈ Pipeline.restRefs sig spec0)).trans (V_arg0 m c),
   ((h c).2 main_arg1 (by decide : _ ∈ Pipeline.restRefs sig spec0)).trans (V_arg1 m c),
   ((h c).1 (0 : Fin 5)).trans ((input_kept m hG c 0 rfl).trans (V_arg2 m c)),
   ((h c).1 (1 : Fin 5)).trans ((input_kept m hG c 1 rfl).trans (V_arg3 m c)),
   ((h c).1 (2 : Fin 5)).trans ((input_kept m hG c 2 rfl).trans (V_arg4 m c)),
   ((h c).1 (3 : Fin 5)).trans ((input_kept m hG c 3 rfl).trans (V_arg5 m c))⟩

/-- Entry `j` of the result's block at point `t` is entry `256 t + j` of the result. -/
theorem out_emb (a : (pcfg0 (F := F)).Adm) (t : Fin grid0.N) (j : S256x16x128.Idx) :
    (((cfg0 a).win 4).blk t).view.emb j = ix3 (rowOf (tl t) (j 0)) (j 1) (j 2) := by
  funext k
  apply Fin.ext
  have h : ((((cfg0 a).win 4).blk t).view.emb j k).val
      = cc0_transform_4 (grid0.coords t) k * S256x16x128.size k + 1 * (j k).val := rfl
  refine h.trans ?_
  have e : (BitVec.ofNat 32 (grid0.coords t 0).val).toNat = t.val := by
    have := lt_of_lt_of_eq t.isLt N_0
    rw [coords_val]; exact WordCmp.toNat_ofNat_of_lt (by omega)
  match k with
  | ⟨0, _⟩ =>
    show (BitVec.ofNat 32 (grid0.coords t 0).val).toNat * 256 + 1 * (j 0).val = t.val * 256 + (j 0).val
    rw [e]; omega
  | ⟨1, _⟩ => show 0 * 16 + 1 * (j 1).val = (j 1).val; omega
  | ⟨2, _⟩ => show 0 * 128 + 1 * (j 2).val = (j 2).val; omega

/-- The tile and the place in the tile of a row. -/
def tileOf (r : Fin 81920) : Fin 320 := ⟨r.val / 256, by omega⟩
def inTile (r : Fin 81920) : Fin 256 := ⟨r.val % 256, by omega⟩
theorem rowOf_tile (r : Fin 81920) : rowOf (tileOf r) (inTile r) = r := Fin.ext (by show r.val / 256 * 256 + r.val % 256 = r.val; omega)
theorem tileOf_row (i : Fin 320) (j : Fin 256) : tileOf (rowOf i j) = i := Fin.ext (by show (i.val * 256 + j.val) / 256 = i.val; omega)
theorem inTile_row (i : Fin 320) (j : Fin 256) : inTile (rowOf i j) = j := Fin.ext (by show (i.val * 256 + j.val) % 256 = j.val; omega)

abbrev ptOf (i : Fin 320) : Fin grid0.N := ⟨i.val, lt_of_lt_of_eq i.isLt N_0.symm⟩

/-- The result, entry by entry: what the row's tile's point leaves there. -/
def result (c : Dev nD) : S81920x16x128.Idx → BitVec 32 :=
  fun y => outAt m hG c (ptOf (tileOf (y 0))) (ix3 (inTile (y 0)) (y 1) (y 2))

theorem flushes (a : (pcfg0 (F := F)).Adm) (t : Fin grid0.N) : ((cfg0 a).win 4).flush t = true := by
  show Pipeline.Window.flushOf grid0 true cc0_transform_4 t = true
  refine (Pipeline.Window.flushOf_reads (G := grid0) cc0_transform_4 (fun _ => true) ?_ (0 : Fin 1) (by decide) (by decide) ?_
    (P := 1) (m := 0) (by decide) rfl t).2 (Nat.mod_one _)
  · intro i i' h
    rw [show i = i' from funext fun a => h a rfl]
  · intro i i' h
    have h0 := congrFun h 0
    have e : (BitVec.ofNat 32 (i 0).val).toNat = (BitVec.ofNat 32 (i' 0).val).toNat := h0
    have h1 : (i 0).val < 320 := (i 0).isLt
    have h2 : (i' 0).val < 320 := (i' 0).isLt
    rw [WordCmp.toNat_ofNat_of_lt (by omega), WordCmp.toNat_ofNat_of_lt (by omega)] at e
    exact Fin.ext e

theorem piece {α : Type} (o : Fin grid0.N → S256x16x128.Idx → α) (t : Fin grid0.N) (p : Fin 256) (q : Fin 16) (l : Fin 128) :
    o (ptOf (tileOf (rowOf (tl t) p))) (ix3 (inTile (rowOf (tl t) p)) q l) = o t (ix3 p q l) := by
  rw [tileOf_row, inTile_row]

theorem place (r : Fin 81920) (q : Fin 16) (l : Fin 128) :
    (ix3 (rowOf (tileOf r) (inTile r)) q l : S81920x16x128.Idx) = ix3 r q l := by
  rw [rowOf_tile]

theorem mem_of_emb {sp : Space} {s : Shape} {e : EltTy} (v : View sig .tc sp s e) (x : s.Idx) (y : v.ty.Idx) (h : v.emb x = y) : y ∈ v.set :=
  h ▸ v.emb_mem_set x

/-- Every entry of the result lies in its tile's block. -/
theorem row_stored (a : (pcfg0 (F := F)).Adm) (y : S81920x16x128.Idx) : y ∈ (((cfg0 a).win 4).blk (ptOf (tileOf (y 0)))).view.set :=
  mem_of_emb (((cfg0 a).win 4).blk (ptOf (tileOf (y 0)))).view (ix3 (inTile (y 0)) (y 1) (y 2) : S256x16x128.Idx) y
    ((out_emb a (ptOf (tileOf (y 0))) (ix3 (inTile (y 0)) (y 1) (y 2))).trans ((place (y 0) (y 1) (y 2)).trans (eq_ix3 y).symm))

theorem result_arr (a : (pcfg0 (F := F)).Adm) (c : Dev nD) (dat : Dat τ (Elt F) Unit ℕ (UR sig nD τ) ℕ (cfg0 a) c)
    (o : Fin grid0.N → Vec F S256x16x128 .i32) (ho : ∀ t, dat.after 4 t = o t) (G : S81920x16x128.Idx → BitVec 32)
    (hG : ∀ y, G y = o (ptOf (tileOf (y 0))) (ix3 (inTile (y 0)) (y 1) (y 2))) :
    dat.arrAt 4 (cfg0 a).N = G := by
  refine dat.arrAt_eq_of_cover 4 G (fun t _ => ?_) (fun y => ⟨ptOf (tileOf (y (0 : Fin 3))), flushes a _, ?_⟩)
  · funext j
    refine (congrFun (ho t) j).trans ?_
    have key : ∀ j : S256x16x128.Idx, o t j = G (ix3 (rowOf (tl t) (j 0)) (j 1) (j 2)) := fun j => by
      refine Eq.trans ?_ (hG _).symm
      exact (congrArg (o t) (eq_ix3 j)).trans (piece o t (j 0) (j 1) (j 2)).symm
    exact (key j).trans (congrArg G (out_emb a t j)).symm
  · exact row_stored a y

theorem result_eq (c : Dev nD) : (dats m hG 0 c).arrAt 4 (cfgM m hG).N = result m hG c :=
  result_arr (adm m hG) c (dats m hG 0 c) (outAt m hG c) (fun t => after_4 m hG c t) (result m hG c) fun _ => rfl

/-- The run with its result. -/
theorem run_result : θ_run defs (onTc (τ := τ) (main (F := F))) (s₀ m ρ) (fun r => (∀ c : Dev nD,
      r.2.mem ((c.tc : Thread nD τ).loc main_v7) = result m hG c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).1 (4 : Fin 5)).trans (result_eq m hG c), args_kept m hG h.1 c⟩, h.2⟩) (run_main m ρ hG)

include hG in
/-- The run, and the arguments unchanged. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_result m ρ hG)

end Cert.Kernel.Run

end
-- ==== Proof.Slabs.lean ====
module

public import proofs.«01_k».proof.Proof.Body
public import proofs.«01_k».proof.Proof.Gen.Reference.Skeleton
public import Idealize.ShloMosaic.Lib.Pointwise

@[expose] public section

set_option maxRecDepth 16384

noncomputable section

namespace Cert.Kernel.Run

open Idealize.ShloMosaic
open Cert.Kernel.Gen

variable {F : FTy → Type} [BitOps F]

/-- Sublane `s` has bit `n` set. -/
abbrev bit (n : BitVec 32) (s : Fin 8) : Prop := (BitVec.ofNat 32 s.val &&& n) ≠ 0#32

/-- The sublane `s` of a vector rotated by `c` comes from. -/
abbrev from' (c : BitVec 32) (s : Fin 8) : Fin 8 := ⟨(s.val + 8 - c.toNat % 8) % 8, Nat.mod_lt _ (by decide)⟩

/-- The mask of the sublanes with bit `n`. -/
abbrev mask (n : BitVec 32) : IVec S32x2x8x128 1 :=
  cmpi .ne (andi (iota .tc S32x2x8x128 32 [2] iota_S32x2x8x128_d2_w32) (broadcast S32x2x8x128 n)) (broadcast S32x2x8x128 0#32)

theorem mask_at (n : BitVec 32) (r : Fin 32) (h : Fin 2) (s : Fin 8) (l : Fin 128) :
    mask n (ix4 r h s l) = BitVec.ofBool (decide (bit n s)) := by
  show IntOp.cmpi .ne (BitVec.ofNat 32 (0 * 8 + s.val) &&& n) 0#32 = _
  rw [WordCmp.cmpi_ne_eq, Nat.zero_mul, Nat.zero_add]

theorem select_at {α : Type} (n : BitVec 32) (x y : S32x2x8x128.Idx → α) (r : Fin 32) (h : Fin 2) (s : Fin 8) (l : Fin 128) :
    select (mask n) x y (ix4 r h s l) = if bit n s then x (ix4 r h s l) else y (ix4 r h s l) := by
  show (if mask n (ix4 r h s l) = 1#1 then _ else _) = _
  rw [mask_at]
  by_cases e : bit n s
  · rw [decide_eq_true e, if_pos e]; rfl
  · rw [decide_eq_false e, if_neg e]; rfl

theorem rotate_at {α : Type} (c : BitVec 32) (x : S32x2x8x128.Idx → α) (r : Fin 32) (h : Fin 2) (s : Fin 8) (l : Fin 128) :
    dynamicRotate 2 c none x rotates_S32x2x8x128_d2 (ix4 r h s l) = x (ix4 r h (from' c s) l) := by
  refine congrArg x (funext fun a => ?_)
  match a with
  | ⟨0, _⟩ => rfl
  | ⟨1, _⟩ => rfl
  | ⟨2, _⟩ => rfl
  | ⟨3, _⟩ => rfl

/-- One stage of the exchange: vectors whose numbers differ in bit `n` swap the sublanes that differ in it. -/
def stage {w : ℕ} (n : BitVec 32) (v : Fin 8 → IVec S32x2x8x128 w) (k : Fin 8) : IVec S32x2x8x128 w :=
  if bit n k then select (mask n) (v k) (dynamicRotate 2 (8#32 - n) none (v (from' n k)) rotates_S32x2x8x128_d2)
  else select (mask n) (dynamicRotate 2 n none (v (from' (8#32 - n) k)) rotates_S32x2x8x128_d2) (v k)

theorem stage_at {w : ℕ} (n : BitVec 32) (v : Fin 8 → IVec S32x2x8x128 w) (k : Fin 8) (r : Fin 32) (h : Fin 2) (s : Fin 8) (l : Fin 128) :
    stage n v k (ix4 r h s l) =
      if bit n k then (if bit n s then v k (ix4 r h s l) else v (from' n k) (ix4 r h (from' (8#32 - n) s) l))
      else (if bit n s then v (from' (8#32 - n) k) (ix4 r h (from' n s) l) else v k (ix4 r h s l)) := by
  unfold stage
  by_cases e : bit n k
  · rw [if_pos e, if_pos e, select_at, rotate_at]
  · rw [if_neg e, if_neg e, select_at, rotate_at]

/-- The three stages together. -/
abbrev exchange {w : ℕ} (v : Fin 8 → IVec S32x2x8x128 w) : Fin 8 → IVec S32x2x8x128 w := stage 1#32 (stage 2#32 (stage 4#32 v))

/-- They exchange the number of a vector with that of a sublane. -/
theorem exchange_at {w : ℕ} (v : Fin 8 → IVec S32x2x8x128 w) (k : Fin 8) (r : Fin 32) (h : Fin 2) (s : Fin 8) (l : Fin 128) :
    exchange v k (ix4 r h s l) = v s (ix4 r h k l) := by
  unfold exchange
  simp only [stage_at]
  generalize hf : (fun (a b : Fin 8) => v a (ix4 r h b l)) = f
  have e (a b : Fin 8) : v a (ix4 r h b l) = f a b := by rw [← hf]
  simp only [e]
  fin_cases k <;> fin_cases s <;> rfl

/-- The eight vectors a block of rows is read into: row `8 r + j` gives vector `j`. -/
abbrev slabs (v : Vec F S256x16x128 .i32) : Fin 8 → IVec S32x2x8x128 32 :=
  ![k0_pay6 v, k0_pay7 v, k0_pay8 v, k0_pay9 v, k0_pay10 v, k0_pay11 v, k0_pay12 v, k0_pay13 v]

theorem slabs_at (v : Vec F S256x16x128 .i32) (j : Fin 8) (r : Fin 32) (h : Fin 2) (s : Fin 8) (l : Fin 128) :
    slabs v j (ix4 r h s l) = v (ix3 ⟨r.val * 8 + j.val, by omega⟩ ⟨h.val * 8 + s.val, by omega⟩ l) := by
  match j with
  | 0 => show k0_pay6 v _ = _; unfold k0_pay6 k0_pay5; pointwise
  | 1 => show k0_pay7 v _ = _; unfold k0_pay7 k0_pay5; pointwise
  | 2 => show k0_pay8 v _ = _; unfold k0_pay8 k0_pay5; pointwise
  | 3 => show k0_pay9 v _ = _; unfold k0_pay9 k0_pay5; pointwise
  | 4 => show k0_pay10 v _ = _; unfold k0_pay10 k0_pay5; pointwise
  | 5 => show k0_pay11 v _ = _; unfold k0_pay11 k0_pay5; pointwise
  | 6 => show k0_pay12 v _ = _; unfold k0_pay12 k0_pay5; pointwise
  | 7 => show k0_pay13 v _ = _; unfold k0_pay13 k0_pay5; pointwise

/-- One half of an exchanged vector as 128 columns of a tile. -/
abbrev strip (o : Fin 4 → ℕ) (x : IVec S32x2x8x128 32) (ho : S32x2x8x128.Slices o S32x1x8x128) : IVec S256x128 32 :=
  shapeCast S256x128 (shapeCast S32x8x128 (extractStridedSlice S32x1x8x128 o x ho) shapeCasts_S32x1x8x128_S32x8x128)
    shapeCasts_S32x8x128_S256x128

/-- The sixteen strips of a tile. -/
abbrev strips (w : Fin 8 → IVec S32x2x8x128 32) : Fin 16 → IVec S256x128 32 :=
  ![strip ![0, 0, 0, 0] (w 0) slices_S32x2x8x128_o0_0_0_0_S32x1x8x128,
    strip ![0, 0, 0, 0] (w 1) slices_S32x2x8x128_o0_0_0_0_S32x1x8x128,
    strip ![0, 0, 0, 0] (w 2) slices_S32x2x8x128_o0_0_0_0_S32x1x8x128,
    strip ![0, 0, 0, 0] (w 3) slices_S32x2x8x128_o0_0_0_0_S32x1x8x128,
    strip ![0, 0, 0, 0] (w 4) slices_S32x2x8x128_o0_0_0_0_S32x1x8x128,
    strip ![0, 0, 0, 0] (w 5) slices_S32x2x8x128_o0_0_0_0_S32x1x8x128,
    strip ![0, 0, 0, 0] (w 6) slices_S32x2x8x128_o0_0_0_0_S32x1x8x128,
    strip ![0, 0, 0, 0] (w 7) slices_S32x2x8x128_o0_0_0_0_S32x1x8x128,
    strip ![0, 1, 0, 0] (w 0) slices_S32x2x8x128_o0_1_0_0_S32x1x8x128,
    strip ![0, 1, 0, 0] (w 1) slices_S32x2x8x128_o0_1_0_0_S32x1x8x128,
    strip ![0, 1, 0, 0] (w 2) slices_S32x2x8x128_o0_1_0_0_S32x1x8x128,
    strip ![0, 1, 0, 0] (w 3) slices_S32x2x8x128_o0_1_0_0_S32x1x8x128,
    strip ![0, 1, 0, 0] (w 4) slices_S32x2x8x128_o0_1_0_0_S32x1x8x128,
    strip ![0, 1, 0, 0] (w 5) slices_S32x2x8x128_o0_1_0_0_S32x1x8x128,
    strip ![0, 1, 0, 0] (w 6) slices_S32x2x8x128_o0_1_0_0_S32x1x8x128,
    strip ![0, 1, 0, 0] (w 7) slices_S32x2x8x128_o0_1_0_0_S32x1x8x128]

/-- The words of a tile as the kernel lays them out, of the eight exchanged vectors. -/
def laid (w : Fin 8 → IVec S32x2x8x128 32) : IVec S256x2048 32 :=
  concatenate S256x2048 1 (List.ofFn fun c => ⟨S256x128, strips w c⟩)
    concatenates_S256x128_S256x128_S256x128_S256x128_S256x128_S256x128_S256x128_S256x128_S256x128_S256x128_S256x128_S256x128_S256x128_S256x128_S256x128_S256x128_S256x2048_d1

/-- The tile of the first product, of its packed words. -/
def opened (x : IVec S256x2048 32) : FVec F S256x4096 .bf16 :=
  truncf .bf16 (concatenate S256x4096 1 [⟨S256x2048, (unpackElementwise 0 x : FVec F S256x2048 .f32)⟩,
    ⟨S256x2048, (unpackElementwise 1 x : FVec F S256x2048 .f32)⟩] concatenates_S256x2048_S256x2048_S256x4096_d1) bitsLt_bf16_f32

theorem xTile_eq (v : Vec F S256x16x128 .i32) : xTile v = opened (laid (exchange (slabs v))) := rfl

theorem gTile_eq (v : Vec F S256x16x128 .i32) (wg : Vec F S4096x256 .bf16) :
    gTile v wg = matmul dot_S256x4096_S4096x256_S256x256_1_0_0_1_n_n none (xTile v) wg (constant S256x256 .f32 0x00000000#32) := rfl

theorem strips_at (w : Fin 8 → IVec S32x2x8x128 32) (r : Fin 32) (j : Fin 8) (h : Fin 2) (k : Fin 8) (l : Fin 128) :
    strips w ⟨h.val * 8 + k.val, by omega⟩ (ix2 ⟨r.val * 8 + j.val, by omega⟩ l) = w k (ix4 r h j l) := by
  match h, k with
  | 0, 0 => show strip ![0, 0, 0, 0] (w 0) slices_S32x2x8x128_o0_0_0_0_S32x1x8x128 _ = _; pointwise
  | 0, 1 => show strip ![0, 0, 0, 0] (w 1) slices_S32x2x8x128_o0_0_0_0_S32x1x8x128 _ = _; pointwise
  | 0, 2 => show strip ![0, 0, 0, 0] (w 2) slices_S32x2x8x128_o0_0_0_0_S32x1x8x128 _ = _; pointwise
  | 0, 3 => show strip ![0, 0, 0, 0] (w 3) slices_S32x2x8x128_o0_0_0_0_S32x1x8x128 _ = _; pointwise
  | 0, 4 => show strip ![0, 0, 0, 0] (w 4) slices_S32x2x8x128_o0_0_0_0_S32x1x8x128 _ = _; pointwise
  | 0, 5 => show strip ![0, 0, 0, 0] (w 5) slices_S32x2x8x128_o0_0_0_0_S32x1x8x128 _ = _; pointwise
  | 0, 6 => show strip ![0, 0, 0, 0] (w 6) slices_S32x2x8x128_o0_0_0_0_S32x1x8x128 _ = _; pointwise
  | 0, 7 => show strip ![0, 0, 0, 0] (w 7) slices_S32x2x8x128_o0_0_0_0_S32x1x8x128 _ = _; pointwise
  | 1, 0 => show strip ![0, 1, 0, 0] (w 0) slices_S32x2x8x128_o0_1_0_0_S32x1x8x128 _ = _; pointwise
  | 1, 1 => show strip ![0, 1, 0, 0] (w 1) slices_S32x2x8x128_o0_1_0_0_S32x1x8x128 _ = _; pointwise
  | 1, 2 => show strip ![0, 1, 0, 0] (w 2) slices_S32x2x8x128_o0_1_0_0_S32x1x8x128 _ = _; pointwise
  | 1, 3 => show strip ![0, 1, 0, 0] (w 3) slices_S32x2x8x128_o0_1_0_0_S32x1x8x128 _ = _; pointwise
  | 1, 4 => show strip ![0, 1, 0, 0] (w 4) slices_S32x2x8x128_o0_1_0_0_S32x1x8x128 _ = _; pointwise
  | 1, 5 => show strip ![0, 1, 0, 0] (w 5) slices_S32x2x8x128_o0_1_0_0_S32x1x8x128 _ = _; pointwise
  | 1, 6 => show strip ![0, 1, 0, 0] (w 6) slices_S32x2x8x128_o0_1_0_0_S32x1x8x128 _ = _; pointwise
  | 1, 7 => show strip ![0, 1, 0, 0] (w 7) slices_S32x2x8x128_o0_1_0_0_S32x1x8x128 _ = _; pointwise

theorem laid_at (w : Fin 8 → IVec S32x2x8x128 32) (r : Fin 32) (j : Fin 8) (h : Fin 2) (k : Fin 8) (l : Fin 128) :
    laid w (ix2 ⟨r.val * 8 + j.val, by omega⟩ ⟨(h.val * 8 + k.val) * 128 + l.val, by omega⟩) = w k (ix4 r h j l) := by
  refine (concatenate_ofFn_apply (t := S256x2048) (s₁ := S256x128) 1 (strips w) _ rfl 128 rfl _ ⟨h.val * 8 + k.val, by omega⟩ ?_
    (ix2 ⟨r.val * 8 + j.val, by omega⟩ l) ?_ ?_).trans (strips_at w r j h k l)
  · show ((h.val * 8 + k.val) * 128 + l.val) / 128 = h.val * 8 + k.val
    omega
  · show l.val = ((h.val * 8 + k.val) * 128 + l.val) % 128
    omega
  · intro b hb
    match b with
    | ⟨0, _⟩ => rfl
    | ⟨1, _⟩ => exact absurd rfl hb

/-- The words a tile's first product reads are its rows' words in their order. -/
theorem laid_slabs (v : Vec F S256x16x128 .i32) :
    laid (exchange (slabs v)) = shapeCast S256x2048 v Cert.Reference.Gen.shapeCasts_S256x16x128_S256x2048 := by
  funext y
  obtain ⟨p, q, rfl⟩ : ∃ (p : Fin 256) (q : Fin 2048), y = ix2 p q := ⟨y 0, y 1, eq_ix2 y⟩
  obtain ⟨r, j, rfl⟩ : ∃ (r : Fin 32) (j : Fin 8), p = ⟨r.val * 8 + j.val, by omega⟩ :=
    ⟨⟨p.val / 8, by omega⟩, ⟨p.val % 8, by omega⟩, Fin.ext (by show p.val = p.val / 8 * 8 + p.val % 8; omega)⟩
  obtain ⟨h, k, l, rfl⟩ : ∃ (h : Fin 2) (k : Fin 8) (l : Fin 128), q = ⟨(h.val * 8 + k.val) * 128 + l.val, by omega⟩ :=
    ⟨⟨q.val / 1024, by omega⟩, ⟨q.val / 128 % 8, by omega⟩, ⟨q.val % 128, by omega⟩,
      Fin.ext (by show q.val = (q.val / 1024 * 8 + q.val / 128 % 8) * 128 + q.val % 128; omega)⟩
  rw [laid_at, exchange_at, slabs_at]
  symm
  pointwise
  exact congrArg (fun c : Fin 16 => v (ix3 _ c l)) (Fin.ext (by show ((h.val * 8 + k.val) * 128 + l.val) / 128 = h.val * 8 + k.val; omega))

/-- The eight vectors the packed result is cut into: its columns `128 (8 h + j)` and on are half `h` of vector `j`. -/
abbrev cuts (a : FVec F S256x4096 .bf16) (b : FVec F S256x256 .f32) (wu : Vec F S4096x256 .bf16) (wd : Vec F S256x4096 .bf16) :
    Fin 8 → IVec S32x2x8x128 32 :=
  ![k0_pay51 a b wu wd, k0_pay52 a b wu wd, k0_pay53 a b wu wd, k0_pay54 a b wu wd,
    k0_pay56 (k0_pay47 a b wu wd) (k0_pay55 a b wu wd), k0_pay57 (k0_pay44 a b wu wd) (k0_pay48 a b wu wd),
    k0_pay58 (k0_pay45 a b wu wd) (k0_pay49 a b wu wd), k0_pay59 (k0_pay46 a b wu wd) (k0_pay50 a b wu wd)]

theorem cuts_at (a : FVec F S256x4096 .bf16) (b : FVec F S256x256 .f32) (wu : Vec F S4096x256 .bf16) (wd : Vec F S256x4096 .bf16)
    (j : Fin 8) (r : Fin 32) (h : Fin 2) (s : Fin 8) (l : Fin 128) :
    cuts a b wu wd j (ix4 r h s l)
      = k0_pay43 a b wu wd (ix2 ⟨r.val * 8 + s.val, by omega⟩ ⟨(h.val * 8 + j.val) * 128 + l.val, by omega⟩) := by
  match j, h with
  | 0, 0 => show k0_pay51 a b wu wd _ = _; unfold k0_pay51; generalize k0_pay43 a b wu wd = x; pointwise
  | 0, 1 => show k0_pay51 a b wu wd _ = _; unfold k0_pay51; generalize k0_pay43 a b wu wd = x; pointwise
  | 1, 0 => show k0_pay52 a b wu wd _ = _; unfold k0_pay52; generalize k0_pay43 a b wu wd = x; pointwise
  | 1, 1 => show k0_pay52 a b wu wd _ = _; unfold k0_pay52; generalize k0_pay43 a b wu wd = x; pointwise
  | 2, 0 => show k0_pay53 a b wu wd _ = _; unfold k0_pay53; generalize k0_pay43 a b wu wd = x; pointwise
  | 2, 1 => show k0_pay53 a b wu wd _ = _; unfold k0_pay53; generalize k0_pay43 a b wu wd = x; pointwise
  | 3, 0 => show k0_pay54 a b wu wd _ = _; unfold k0_pay54; generalize k0_pay43 a b wu wd = x; pointwise
  | 3, 1 => show k0_pay54 a b wu wd _ = _; unfold k0_pay54; generalize k0_pay43 a b wu wd = x; pointwise
  | 4, 0 => show k0_pay56 (k0_pay47 a b wu wd) (k0_pay55 a b wu wd) _ = _; unfold k0_pay47 k0_pay55 k0_pay56; generalize k0_pay43 a b wu wd = x; pointwise
  | 4, 1 => show k0_pay56 (k0_pay47 a b wu wd) (k0_pay55 a b wu wd) _ = _; unfold k0_pay47 k0_pay55 k0_pay56; generalize k0_pay43 a b wu wd = x; pointwise
  | 5, 0 => show k0_pay57 (k0_pay44 a b wu wd) (k0_pay48 a b wu wd) _ = _; unfold k0_pay44 k0_pay48 k0_pay57; generalize k0_pay43 a b wu wd = x; pointwise
  | 5, 1 => show k0_pay57 (k0_pay44 a b wu wd) (k0_pay48 a b wu wd) _ = _; unfold k0_pay44 k0_pay48 k0_pay57; generalize k0_pay43 a b wu wd = x; pointwise
  | 6, 0 => show k0_pay58 (k0_pay45 a b wu wd) (k0_pay49 a b wu wd) _ = _; unfold k0_pay45 k0_pay49 k0_pay58; generalize k0_pay43 a b wu wd = x; pointwise
  | 6, 1 => show k0_pay58 (k0_pay45 a b wu wd) (k0_pay49 a b wu wd) _ = _; unfold k0_pay45 k0_pay49 k0_pay58; generalize k0_pay43 a b wu wd = x; pointwise
  | 7, 0 => show k0_pay59 (k0_pay46 a b wu wd) (k0_pay50 a b wu wd) _ = _; unfold k0_pay46 k0_pay50 k0_pay59; generalize k0_pay43 a b wu wd = x; pointwise
  | 7, 1 => show k0_pay59 (k0_pay46 a b wu wd) (k0_pay50 a b wu wd) _ = _; unfold k0_pay46 k0_pay50 k0_pay59; generalize k0_pay43 a b wu wd = x; pointwise

/-- One exchanged vector as the rows `8 r + k` of a block. -/
abbrev row (x : IVec S32x2x8x128 32) : IVec S32x1x2x8x128 32 := shapeCast S32x1x2x8x128 x shapeCasts_S32x2x8x128_S32x1x2x8x128

/-- The block the kernel stores, of the eight exchanged vectors. -/
def joined (w : Fin 8 → IVec S32x2x8x128 32) : IVec S256x16x128 32 :=
  shapeCast S256x16x128 (concatenate S32x8x2x8x128 1 (List.ofFn fun c => ⟨S32x1x2x8x128, row (w c)⟩)
    concatenates_S32x1x2x8x128_S32x1x2x8x128_S32x1x2x8x128_S32x1x2x8x128_S32x1x2x8x128_S32x1x2x8x128_S32x1x2x8x128_S32x1x2x8x128_S32x8x2x8x128_d1)
    shapeCasts_S32x8x2x8x128_S256x16x128

theorem outTile_eq (a : FVec F S256x4096 .bf16) (b : FVec F S256x256 .f32) (wu : Vec F S4096x256 .bf16) (wd : Vec F S256x4096 .bf16) :
    outTile a b wu wd = joined (exchange (cuts a b wu wd)) := rfl

theorem joined_at (w : Fin 8 → IVec S32x2x8x128 32) (r : Fin 32) (k : Fin 8) (h : Fin 2) (s : Fin 8) (l : Fin 128) :
    joined w (ix3 ⟨r.val * 8 + k.val, by omega⟩ ⟨h.val * 8 + s.val, by omega⟩ l) = w k (ix4 r h s l) := by
  have e : joined w (ix3 ⟨r.val * 8 + k.val, by omega⟩ ⟨h.val * 8 + s.val, by omega⟩ l)
      = concatenate S32x8x2x8x128 1 (List.ofFn fun c => ⟨S32x1x2x8x128, row (w c)⟩)
          concatenates_S32x1x2x8x128_S32x1x2x8x128_S32x1x2x8x128_S32x1x2x8x128_S32x1x2x8x128_S32x1x2x8x128_S32x1x2x8x128_S32x1x2x8x128_S32x8x2x8x128_d1 (ix5 r k h s l) := by
    unfold joined
    generalize concatenate S32x8x2x8x128 1 (List.ofFn fun c => ⟨S32x1x2x8x128, row (w c)⟩) _ = x
    pointwise
  rw [e]
  refine (concatenate_ofFn_apply (t := S32x8x2x8x128) (s₁ := S32x1x2x8x128) 1 (fun c => row (w c)) _ rfl 1 rfl _ k ?_ (ix5 r 0 h s l) ?_ ?_).trans ?_
  · exact Nat.div_one _
  · exact (Nat.mod_one _).symm
  · intro b hb
    match b with
    | ⟨0, _⟩ => rfl
    | ⟨1, _⟩ => exact absurd rfl hb
    | ⟨2, _⟩ => rfl
    | ⟨3, _⟩ => rfl
    | ⟨4, _⟩ => rfl
  · pointwise

/-- The block a tile stores is its packed words in their order. -/
theorem outTile_words (a : FVec F S256x4096 .bf16) (b : FVec F S256x256 .f32) (wu : Vec F S4096x256 .bf16) (wd : Vec F S256x4096 .bf16) :
    outTile a b wu wd = shapeCast S256x16x128 (k0_pay43 a b wu wd) Cert.Reference.Gen.shapeCasts_S256x2048_S256x16x128 := by
  rw [outTile_eq]
  funext y
  obtain ⟨p, c, l, rfl⟩ : ∃ (p : Fin 256) (c : Fin 16) (l : Fin 128), y = ix3 p c l := ⟨y 0, y 1, y 2, eq_ix3 y⟩
  obtain ⟨r, k, rfl⟩ : ∃ (r : Fin 32) (k : Fin 8), p = ⟨r.val * 8 + k.val, by omega⟩ :=
    ⟨⟨p.val / 8, by omega⟩, ⟨p.val % 8, by omega⟩, Fin.ext (by show p.val = p.val / 8 * 8 + p.val % 8; omega)⟩
  obtain ⟨h, s, rfl⟩ : ∃ (h : Fin 2) (s : Fin 8), c = ⟨h.val * 8 + s.val, by omega⟩ :=
    ⟨⟨c.val / 8, by omega⟩, ⟨c.val % 8, by omega⟩, Fin.ext (by show c.val = c.val / 8 * 8 + c.val % 8; omega)⟩
  rw [joined_at, exchange_at, cuts_at]
  symm
  pointwise

/-- **A used tile's block, by the plain computation**: the reference's own expression of its four operands. -/
theorem tileOut_eq (v : Vec F S256x16x128 .i32) (wg wu : Vec F Cert.Reference.S1x4096x256 .bf16) (wd : Vec F Cert.Reference.S1x256x4096 .bf16) :
    tileOut v (shapeCast S4096x256 wg Cert.Reference.Gen.shapeCasts_S1x4096x256_S4096x256)
        (shapeCast S4096x256 wu Cert.Reference.Gen.shapeCasts_S1x4096x256_S4096x256)
        (shapeCast S256x4096 wd Cert.Reference.Gen.shapeCasts_S1x256x4096_S256x4096)
      = Cert.Reference.Gen.k0_pay1 v wg wu wd := by
  unfold tileOut
  rw [outTile_words, gTile_eq, xTile_eq, laid_slabs]
  unfold k0_pay43 opened Cert.Reference.Gen.k0_pay1
  rfl

end Cert.Kernel.Run

end
-- ==== Proof.Range.lean ====
module

public import proofs.«01_k».proof.Proof.Tables
public import proofs.«01_k».proof.Defs
public import proofs.«01_k».proof.Proof.Gen.Pre_table_in_range
public import Idealize.ShloMosaic.Lib.ReduceAll

@[expose] public section

noncomputable section

namespace Cert.Kernel.Run

open Idealize.ShloMosaic Idealize.ShloMosaic.TcCoe
open Cert.Kernel.Gen

theorem and_one {a b : BitVec 1} (h : a &&& b = 1#1) : a = 1#1 ∧ b = 1#1 := by
  revert a b; decide

theorem in_range {w : BitVec 32}
    (h1 : 0 ≤ w.toInt) : w.toNat < 2 ^ 31 ∧ w.toInt = w.toNat := by
  have := w.isLt
  rw [BitVec.toInt_eq_toNat_cond] at h1 ⊢
  split at h1 <;> [skip; omega]
  rename_i h
  exact ⟨by omega, by rw [if_pos h]⟩

/-- The tables are in range in a memory of which the precondition holds. -/
theorem good_of_pre (m : (ℓ : Loc nD τ sig) → Buf (Elt Bits) ℓ) (h : Cert.Pre_Kernel m) : Good m := by
  have h0 := congrFun (h 0) (fun a => a.elim0)
  unfold Cert.Pre_table_in_range.fn at h0
  dsimp only at h0
  obtain ⟨h1, hle⟩ := and_one h0
  obtain ⟨hall, hge⟩ := and_one h1
  have hge := IntOp.cmpi_sge.1 hge
  have hle := IntOp.cmpi_sle.1 hle
  have hn : 1 ≤ (nW m).toInt := hge
  have hn' : (nW m).toInt ≤ 320 := hle
  refine ⟨fun i => ?_, ?_, ?_⟩
  · haveI : Subsingleton Cert.Pre_table_in_range.S_.Idx := ⟨fun a b => funext fun k => k.elim0⟩
    obtain ⟨a, b⟩ := and_one (Host.reduce_andi_all _ _ _ _ _ hall (ix1 i))
    have a := IntOp.cmpi_sge.1 a
    have b := IntOp.cmpi_slt.1 b
    have a' : 0 ≤ (teW m i).toInt := a
    have b' : (teW m i).toInt < 64 := b
    have := (in_range a').2
    omega
  · have := (in_range (by omega : 0 ≤ (nW m).toInt)).2
    omega
  · have := (in_range (by omega : 0 ≤ (nW m).toInt)).2
    omega

end Cert.Kernel.Run

end
-- ==== Proof.RefLoop.lean ====
module

public import proofs.«01_k».proof.Proof.Gen.Reference.Frame
public import Idealize.ShloMosaic.Lib.Pointwise
public import Idealize.ShloMosaic.Lib.WholeRead

@[expose] public section

/-! # What the reference's loop stores

The loop's trip `k` reads the rows and the weights of tile `k` and stores that tile's block; so after the loop the output
holds, at each row, the block of the row's tile. -/

set_option maxRecDepth 16384

noncomputable section

namespace Cert.Reference.Run

open Idealize.ShloMosaic Idealize.ShloMosaic.TcCoe
open Cert.Reference.Gen

variable {F : FTy → Type} [BitOps F]

/-- Row `p` of tile `k`; a row's tile and its place there. -/
def rowOf (k : Fin 320) (p : Fin 256) : Fin 81920 := ⟨k.val * 256 + p.val, by omega⟩
def tileOf (r : Fin 81920) : Fin 320 := ⟨r.val / 256, by omega⟩
def inTile (r : Fin 81920) : Fin 256 := ⟨r.val % 256, by omega⟩
theorem tileOf_row (k : Fin 320) (p : Fin 256) : tileOf (rowOf k p) = k := Fin.ext (by show (k.val * 256 + p.val) / 256 = k.val; omega)
theorem inTile_row (k : Fin 320) (p : Fin 256) : inTile (rowOf k p) = p := Fin.ext (by show (k.val * 256 + p.val) % 256 = p.val; omega)

/-- The rows of tile `k`. -/
def rowsAt (x : Vec F S81920x16x128 .i32) (k : Fin 320) : Vec F S256x16x128 .i32 :=
  fun j => x (ix3 (rowOf k (j (0 : Fin 3))) (j (1 : Fin 3)) (j (2 : Fin 3)))

/-- The weights of tile `k`. -/
def inAt (x : Vec F S320x4096x256 .bf16) (k : Fin 320) : Vec F S1x4096x256 .bf16 := fun j => x (ix3 k (j (1 : Fin 3)) (j (2 : Fin 3)))
def outAt (x : Vec F S320x256x4096 .bf16) (k : Fin 320) : Vec F S1x256x4096 .bf16 := fun j => x (ix3 k (j (1 : Fin 3)) (j (2 : Fin 3)))

section
variable (x0 : Vec F S81920x16x128 .i32) (x1 x2 : Vec F S320x4096x256 .bf16) (x3 : Vec F S320x256x4096 .bf16)

/-- The block of tile `k`. -/
def block (k : Fin 320) : Vec F S256x16x128 .i32 := k0_pay1 (rowsAt x0 k) (inAt x1 k) (inAt x2 k) (outAt x3 k)

/-- All the rows: each the entry of its tile's block. -/
def rows : Vec F S81920x16x128 .i32 := fun y =>
  block x0 x1 x2 x3 (tileOf (y (0 : Fin 3))) (ix3 (inTile (y (0 : Fin 3))) (y (1 : Fin 3)) (y (2 : Fin 3)))

theorem rows_at (k : Fin 320) (p : Fin 256) (q : Fin 16) (l : Fin 128) :
    rows x0 x1 x2 x3 (ix3 (rowOf k p) q l) = block x0 x1 x2 x3 k (ix3 p q l) :=
  congr (congrArg (block x0 x1 x2 x3) (tileOf_row k p)) (congrArg (fun p => ix3 p q l) (inTile_row k p))

theorem trips_eq : k0_t1_loop.trips = 320 := by decide

/-- The tile of a trip. -/
abbrev tripTile (k : Fin k0_t1_loop.trips) : Fin 320 := ⟨k.val, lt_of_lt_of_eq k.isLt trips_eq⟩

section
variable (𝒱 : Variants) (c : Dev nD) (bd : Option 𝒱.V)
  (arg0 : Memref sig .tc .vmem S81920x16x128 .i32) (harg0 : arg0.IsWhole)
  (arg1 : Memref sig .tc .vmem S320x4096x256 .bf16) (harg1 : arg1.IsWhole)
  (arg2 : Memref sig .tc .vmem S320x4096x256 .bf16) (harg2 : arg2.IsWhole)
  (arg3 : Memref sig .tc .vmem S320x256x4096 .bf16) (harg3 : arg3.IsWhole)
  (arg4 : Memref sig .tc .vmem S81920x16x128 .i32) (harg4 : arg4.IsWhole)

/-- Where a trip's block lies in the output. -/
theorem block_emb (k : Fin k0_t1_loop.trips) (x : S256x16x128.Idx) :
    (Rect.unit (s := S81920x16x128) (k0_off1 k) ![256, 16, 128] (k0_off1_inb k)).emb x
      = (ix3 (rowOf (tripTile k) (x (0 : Fin 3))) (x (1 : Fin 3)) (x (2 : Fin 3)) : S81920x16x128.Idx) := by
  funext a
  apply Fin.ext
  show k0_off1 k a + 1 * (x a).val = _
  rw [k0_off1_eq]
  match a with
  | ⟨0, _⟩ => show 256 * k.val + 1 * (x (0 : Fin 3)).val = k.val * 256 + (x (0 : Fin 3)).val; omega
  | ⟨1, _⟩ => show 0 + 1 * (x (1 : Fin 3)).val = (x (1 : Fin 3)).val; omega
  | ⟨2, _⟩ => show 0 + 1 * (x (2 : Fin 3)).val = (x (2 : Fin 3)).val; omega

theorem in_emb (k : Fin k0_t1_loop.trips) (x : S1x4096x256.Idx) :
    (Rect.unit (s := S320x4096x256) (k0_off2 k) ![1, 4096, 256] (k0_off2_inb k)).emb x
      = (ix3 (tripTile k) (x (1 : Fin 3)) (x (2 : Fin 3)) : S320x4096x256.Idx) := by
  funext a
  apply Fin.ext
  show k0_off2 k a + 1 * (x a).val = _
  rw [k0_off2_eq]
  match a with
  | ⟨0, _⟩ => show k.val + 1 * (x (0 : Fin 3)).val = k.val; have : (x (0 : Fin 3)).val < 1 := (x (0 : Fin 3)).isLt; omega
  | ⟨1, _⟩ => show 0 + 1 * (x (1 : Fin 3)).val = (x (1 : Fin 3)).val; omega
  | ⟨2, _⟩ => show 0 + 1 * (x (2 : Fin 3)).val = (x (2 : Fin 3)).val; omega

theorem out_emb (k : Fin k0_t1_loop.trips) (x : S1x256x4096.Idx) :
    (Rect.unit (s := S320x256x4096) (k0_off3 k) ![1, 256, 4096] (k0_off3_inb k)).emb x
      = (ix3 (tripTile k) (x (1 : Fin 3)) (x (2 : Fin 3)) : S320x256x4096.Idx) := by
  funext a
  apply Fin.ext
  show k0_off3 k a + 1 * (x a).val = _
  rw [k0_off3_eq]
  match a with
  | ⟨0, _⟩ => show k.val + 1 * (x (0 : Fin 3)).val = k.val; have : (x (0 : Fin 3)).val < 1 := (x (0 : Fin 3)).isLt; omega
  | ⟨1, _⟩ => show 0 + 1 * (x (1 : Fin 3)).val = (x (1 : Fin 3)).val; omega
  | ⟨2, _⟩ => show 0 + 1 * (x (2 : Fin 3)).val = (x (2 : Fin 3)).val; omega

/-- A trip stores its tile's block, there. -/
theorem trip_pieces (k : Fin k0_t1_loop.trips) :
    tripL_k0_t1 (F := F) 𝒱 c bd arg0 harg0 arg1 harg1 arg2 harg2 arg3 harg3 arg4 harg4
        (harg0.unread x0) (harg1.unread x1) (harg2.unread x2) (harg3.unread x3) k
      = [⟨Rect.unit (k0_off1 k) ![256, 16, 128] (k0_off1_inb k), block x0 x1 x2 x3 (tripTile k)⟩] := by
  unfold tripL_k0_t1 trip_k0_t1
  dsimp only
  have e0 : View.readAt (Elt F) arg0.view (Rect.unit (k0_off1 k) ![256, 16, 128] (k0_off1_inb k)).toLoadRect (harg0.unread x0)
      = rowsAt x0 (tripTile k) := funext fun x => (harg0.readAt_unread x0 _ x).trans (congrArg x0 (block_emb k x))
  have e1 : View.readAt (Elt F) arg1.view (Rect.unit (k0_off2 k) ![1, 4096, 256] (k0_off2_inb k)).toLoadRect (harg1.unread x1)
      = inAt x1 (tripTile k) := funext fun x => (harg1.readAt_unread x1 _ x).trans (congrArg x1 (in_emb k x))
  have e2 : View.readAt (Elt F) arg2.view (Rect.unit (k0_off2 k) ![1, 4096, 256] (k0_off2_inb k)).toLoadRect (harg2.unread x2)
      = inAt x2 (tripTile k) := funext fun x => (harg2.readAt_unread x2 _ x).trans (congrArg x2 (in_emb k x))
  have e3 : View.readAt (Elt F) arg3.view (Rect.unit (k0_off3 k) ![1, 256, 4096] (k0_off3_inb k)).toLoadRect (harg3.unread x3)
      = outAt x3 (tripTile k) := funext fun x => (harg3.readAt_unread x3 _ x).trans (congrArg x3 (out_emb k x))
  rw [e0, e1, e2, e3]
  rfl

/-- The trips' pieces agree with `rows`. -/
theorem pieces_agree (n : ℕ) : ∀ p ∈ pb_k0_t1 (F := F) 𝒱 c bd arg0 harg0 arg1 harg1 arg2 harg2 arg3 harg3 arg4 harg4
      (harg0.unread x0) (harg1.unread x1) (harg2.unread x2) (harg3.unread x3) n,
    ∀ x : p.1.shape.Idx, p.2 x = rows x0 x1 x2 x3 (p.1.emb x) := by
  induction n with
  | zero => intro p hp; exact absurd hp List.not_mem_nil
  | succ n ih =>
    by_cases h : n < k0_t1_loop.trips
    · have e := pb_k0_t1_succ (F := F) 𝒱 c bd arg0 harg0 arg1 harg1 arg2 harg2 arg3 harg3 arg4 harg4
        (harg0.unread x0) (harg1.unread x1) (harg2.unread x2) (harg3.unread x3) ⟨n, h⟩
      dsimp only at e
      rw [e, trip_pieces]
      intro p hp
      rcases List.mem_cons.mp hp with rfl | hp
      · have key : ∀ x : S256x16x128.Idx, block x0 x1 x2 x3 (tripTile ⟨n, h⟩) x
            = rows x0 x1 x2 x3 ((Rect.unit (s := S81920x16x128) (k0_off1 ⟨n, h⟩) ![256, 16, 128] (k0_off1_inb ⟨n, h⟩)).emb x) := fun x =>
          ((congrArg (block x0 x1 x2 x3 (tripTile ⟨n, h⟩)) (eq_ix3 x)).trans (rows_at x0 x1 x2 x3 _ (x (0 : Fin 3)) (x (1 : Fin 3)) (x (2 : Fin 3))).symm).trans
            (congrArg (rows x0 x1 x2 x3) (block_emb ⟨n, h⟩ x)).symm
        exact key
      · exact ih p hp
    · rw [pb_k0_t1.eq_2]; unfold pb_k0_t1Step; rw [dif_neg h]; exact ih

end

/-- **The loop's output**: every row is the entry of its tile's block. -/
theorem out_eq (c : Dev nD)
    (arg0 : Memref sig .tc .vmem S81920x16x128 .i32) (harg0 : arg0.IsWhole)
    (arg1 : Memref sig .tc .vmem S320x4096x256 .bf16) (harg1 : arg1.IsWhole)
    (arg2 : Memref sig .tc .vmem S320x4096x256 .bf16) (harg2 : arg2.IsWhole)
    (arg3 : Memref sig .tc .vmem S320x256x4096 .bf16) (harg3 : arg3.IsWhole)
    (arg4 : Memref sig .tc .vmem S81920x16x128 .i32) (harg4 : arg4.IsWhole) :
    out0_A_4 c arg0 harg0 arg1 harg1 arg2 harg2 arg3 harg3 arg4 harg4 x0 x1 x2 x3 = rows x0 x1 x2 x3 := by
  funext y
  unfold out0_A_4
  refine View.read_writes_apply_of_pieces _ _ (rows x0 x1 x2 x3) _ ?_ y
    (cover0_A_4 c arg0 harg0 arg1 harg1 arg2 harg2 arg3 harg3 arg4 harg4 x0 x1 x2 x3 y)
  unfold kernelRun0_A
  exact pieces_agree x0 x1 x2 x3 Variants.none c none arg0 harg0 arg1 harg1 arg2 harg2 arg3 harg3 arg4 harg4 _

end

end Cert.Reference.Run

end
-- ==== Proof.RefValue.lean ====
module

public import proofs.«01_k».proof.Proof.RefLoop
public import Idealize.ShloMosaic.Lib.Pointwise
public import Idealize.ShloMosaic.Lib.StableHlo.Run

@[expose] public section

/-! # The reference's result -/

set_option maxRecDepth 16384

noncomputable section

namespace Cert.Reference.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Reference.Gen

variable {F : FTy → Type} [BitOps F]

variable (m : (ℓ : Loc nD τ sig) → Buf (Elt F) ℓ) (ρ : Dev nD → PrngReg)

/-- A window's block is its whole array. -/
theorem emb_rows (t : Fin cfg0.N) (j : S81920x16x128.Idx) : ((cfg0.win 0).blk t).view.emb j = j := by
  funext k
  apply Fin.ext
  match k with
  | ⟨0, _⟩ => show 0 * 81920 + 1 * (j (0 : Fin 3)).val = (j (0 : Fin 3)).val; omega
  | ⟨1, _⟩ => show 0 * 16 + 1 * (j (1 : Fin 3)).val = (j (1 : Fin 3)).val; omega
  | ⟨2, _⟩ => show 0 * 128 + 1 * (j (2 : Fin 3)).val = (j (2 : Fin 3)).val; omega

theorem emb_gate (t : Fin cfg0.N) (j : S320x4096x256.Idx) : ((cfg0.win 1).blk t).view.emb j = j := by
  funext k
  apply Fin.ext
  match k with
  | ⟨0, _⟩ => show 0 * 320 + 1 * (j (0 : Fin 3)).val = (j (0 : Fin 3)).val; omega
  | ⟨1, _⟩ => show 0 * 4096 + 1 * (j (1 : Fin 3)).val = (j (1 : Fin 3)).val; omega
  | ⟨2, _⟩ => show 0 * 256 + 1 * (j (2 : Fin 3)).val = (j (2 : Fin 3)).val; omega

theorem emb_up (t : Fin cfg0.N) (j : S320x4096x256.Idx) : ((cfg0.win 2).blk t).view.emb j = j := by
  funext k
  apply Fin.ext
  match k with
  | ⟨0, _⟩ => show 0 * 320 + 1 * (j (0 : Fin 3)).val = (j (0 : Fin 3)).val; omega
  | ⟨1, _⟩ => show 0 * 4096 + 1 * (j (1 : Fin 3)).val = (j (1 : Fin 3)).val; omega
  | ⟨2, _⟩ => show 0 * 256 + 1 * (j (2 : Fin 3)).val = (j (2 : Fin 3)).val; omega

theorem emb_down (t : Fin cfg0.N) (j : S320x256x4096.Idx) : ((cfg0.win 3).blk t).view.emb j = j := by
  funext k
  apply Fin.ext
  match k with
  | ⟨0, _⟩ => show 0 * 320 + 1 * (j (0 : Fin 3)).val = (j (0 : Fin 3)).val; omega
  | ⟨1, _⟩ => show 0 * 256 + 1 * (j (1 : Fin 3)).val = (j (1 : Fin 3)).val; omega
  | ⟨2, _⟩ => show 0 * 4096 + 1 * (j (2 : Fin 3)).val = (j (2 : Fin 3)).val; omega

theorem emb_result (t : Fin cfg0.N) (j : S81920x16x128.Idx) : ((cfg0.win 4).blk t).view.emb j = j := by
  funext k
  apply Fin.ext
  match k with
  | ⟨0, _⟩ => show 0 * 81920 + 1 * (j (0 : Fin 3)).val = (j (0 : Fin 3)).val; omega
  | ⟨1, _⟩ => show 0 * 16 + 1 * (j (1 : Fin 3)).val = (j (1 : Fin 3)).val; omega
  | ⟨2, _⟩ => show 0 * 128 + 1 * (j (2 : Fin 3)).val = (j (2 : Fin 3)).val; omega

/-- The rows before the mask: of the packed rows and the three weight arrays the pallas call is handed. -/
def all (c : Dev nD) : Vec F S81920x16x128 .i32 :=
  rows (V m c main_arg2) (V m c main_v3) (V m c main_v7) (V m c main_v11)

theorem outs_eq (c : Dev nD) (t : Fin cfg0.N) : outsAt0 m c t = all m c := by
  unfold outsAt0 all
  rw [out_eq]
  have e0 : (iblk m c 0 t : Vec F S81920x16x128 .i32) = V m c main_arg2 := funext fun j => congrArg (V m c main_arg2) (emb_rows t j)
  have e1 : (iblk m c 1 t : Vec F S320x4096x256 .bf16) = V m c main_v3 := funext fun j => congrArg (V m c main_v3) (emb_gate t j)
  have e2 : (iblk m c 2 t : Vec F S320x4096x256 .bf16) = V m c main_v7 := funext fun j => congrArg (V m c main_v7) (emb_up t j)
  have e3 : (iblk m c 3 t : Vec F S320x256x4096 .bf16) = V m c main_v11 := funext fun j => congrArg (V m c main_v11) (emb_down t j)
  rw [e0, e1, e2, e3]

theorem arr_eq (c : Dev nD) : (dats m 0 c).arrAt 4 cfg0.N = all m c := by
  refine (dats m 0 c).arrAt_eq_of_cover 4 (all m c) (fun t _ => ?_) (fun y => ⟨t0_0, flush0_4 _, ?_⟩)
  · funext j
    refine (congrFun ((after0_4 m c t).trans (outs_eq m c t)) j).trans ?_
    exact (congrArg (all m c) (emb_result t j)).symm
  · have h := ((cfg0.win 4).blk t0_0).view.emb_mem_set y
    exact (emb_result t0_0 y) ▸ h

/-! ## The weights handed to the pallas call -/

/-- The dimension numbers of taking matrices: one per index, along the first axis. -/
abbrev matDims (N n A B : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Matrix `i` of the result is the matrix that index `i` names, when it names one. -/
theorem take_mat {α : Type} {N n A B : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (i : Fin n) (a : Fin A) (b : Fin B) (e : Fin N)
    (he : (idx (ix2 i (0 : Fin 1))).toInt.toNat = e.val) :
    Host.gather (matDims N n A B wf) x idx (ix3 i a b) = x (ix3 e a b) := by
  unfold Host.gather
  congr 1
  funext k
  refine Fin.ext ?_
  show (matDims N n A B wf).start (ix3 i a b) idx k + (matDims N n A B wf).batchCoord (ix3 i a b) k
      + (matDims N n A B wf).offCoord (ix3 i a b) k = _
  rw [GatherDims.batchCoord_eq_zero _ _ _ List.not_mem_nil]
  match k with
  | ⟨0, _⟩ =>
    have hm : (0 : Fin 3) ∈ (matDims N n A B wf).startIndexMap := List.mem_singleton.mpr rfl
    have hs : (matDims N n A B wf).siIdx (ix3 i a b) ⟨List.idxOf (0 : Fin 3) (matDims N n A B wf).startIndexMap,
        List.idxOf_lt_length_iff.2 hm⟩ = ix2 i (0 : Fin 1) := by
      funext z; refine Fin.ext ?_
      match z with
      | ⟨0, _⟩ => rfl
      | ⟨1, _⟩ => rfl
    show (matDims N n A B wf).start (ix3 i a b) idx (0 : Fin 3) + 0 + (matDims N n A B wf).offCoord (ix3 i a b) (0 : Fin 3) = e.val
    rw [GatherDims.offCoord_eq_zero _ _ _ (fun h => ((GatherDims.mem_sKept _ _).mp h).1 (List.mem_singleton.mpr rfl))]
    unfold GatherDims.start
    rw [dif_pos hm, hs, he]
    show min e.val (N - 1) + 0 + 0 = e.val
    omega
  | ⟨1, _⟩ =>
    have hm : (1 : Fin 3) ∉ (matDims N n A B wf).startIndexMap := by show (1 : Fin 3) ∉ [(0 : Fin 3)]; decide
    show (matDims N n A B wf).start (ix3 i a b) idx (1 : Fin 3) + 0 + (matDims N n A B wf).offCoord (ix3 i a b) (1 : Fin 3) = a.val
    unfold GatherDims.start
    rw [dif_neg hm, Nat.zero_add]
    rfl
  | ⟨2, _⟩ =>
    have hm : (2 : Fin 3) ∉ (matDims N n A B wf).startIndexMap := by show (2 : Fin 3) ∉ [(0 : Fin 3)]; decide
    show (matDims N n A B wf).start (ix3 i a b) idx (2 : Fin 3) + 0 + (matDims N n A B wf).offCoord (ix3 i a b) (2 : Fin 3) = b.val
    unfold GatherDims.start
    rw [dif_neg hm, Nat.zero_add]
    rfl

theorem gate_arr (c : Dev nD) : V m c main_v3 = truncf .bf16 (Host.gather gather_S64x4096x256_S320x1_S320x4096x256_12_0_n_n_0_1_14096256
      (shapeCast S64x4096x256 (extractStridedSlice S1x64x4096x256 ![1, 0, 0, 0] (m ((c : Thread nD τ).loc main_arg3) : Vec F S2x64x4096x256 .f32)
        slices_S2x64x4096x256_S1x64x4096x256_1_0_0_0) shapeCasts_S1x64x4096x256_S64x4096x256)
      (broadcastInDim S320x1 ![0] bcast_S320_S320x1_0 (m ((c : Thread nD τ).loc main_arg0) : S320.Idx → BitVec 32))) bitsLt_bf16_f32 := by
  dsimp only [V, V0]
  simp only [List.flatten_cons, List.flatten_nil, List.append_nil, List.cons_append, List.nil_append]
  after_results
  try rfl

/-- Tile `k`'s matrix: its expert's, of the second layer, rounded. -/
theorem gate_at (c : Dev nD) (k : Fin 320) (a : Fin 4096) (b : Fin 256) (e : Fin 64)
    (he : ((m ((c : Thread nD τ).loc main_arg0) : S320.Idx → BitVec 32) (ix1 k)).toInt.toNat = e.val) :
    (V m c main_v3 : Vec F S320x4096x256 .bf16) (ix3 k a b)
      = FloatOps.truncf .bf16 bitsLt_bf16_f32 ((m ((c : Thread nD τ).loc main_arg3) : Vec F S2x64x4096x256 .f32) (ix4 (1 : Fin 2) e a b)) := by
  rw [gate_arr]
  refine congrArg (fun z => FloatOps.truncf (φ := .f32) .bf16 bitsLt_bf16_f32 z) ?_
  refine (take_mat gather_S64x4096x256_S320x1_S320x4096x256_12_0_n_n_0_1_14096256_wf _ _ k a b e ?_).trans ?_
  · pointwise; exact he
  · pointwise

theorem up_arr (c : Dev nD) : V m c main_v7 = truncf .bf16 (Host.gather gather_S64x4096x256_S320x1_S320x4096x256_12_0_n_n_0_1_14096256
      (shapeCast S64x4096x256 (extractStridedSlice S1x64x4096x256 ![1, 0, 0, 0] (m ((c : Thread nD τ).loc main_arg4) : Vec F S2x64x4096x256 .f32)
        slices_S2x64x4096x256_S1x64x4096x256_1_0_0_0) shapeCasts_S1x64x4096x256_S64x4096x256)
      (broadcastInDim S320x1 ![0] bcast_S320_S320x1_0 (m ((c : Thread nD τ).loc main_arg0) : S320.Idx → BitVec 32))) bitsLt_bf16_f32 := by
  dsimp only [V, V0]
  simp only [List.flatten_cons, List.flatten_nil, List.append_nil, List.cons_append, List.nil_append]
  after_results
  try rfl

/-- Tile `k`'s matrix: its expert's, of the second layer, rounded. -/
theorem up_at (c : Dev nD) (k : Fin 320) (a : Fin 4096) (b : Fin 256) (e : Fin 64)
    (he : ((m ((c : Thread nD τ).loc main_arg0) : S320.Idx → BitVec 32) (ix1 k)).toInt.toNat = e.val) :
    (V m c main_v7 : Vec F S320x4096x256 .bf16) (ix3 k a b)
      = FloatOps.truncf .bf16 bitsLt_bf16_f32 ((m ((c : Thread nD τ).loc main_arg4) : Vec F S2x64x4096x256 .f32) (ix4 (1 : Fin 2) e a b)) := by
  rw [up_arr]
  refine congrArg (fun z => FloatOps.truncf (φ := .f32) .bf16 bitsLt_bf16_f32 z) ?_
  refine (take_mat gather_S64x4096x256_S320x1_S320x4096x256_12_0_n_n_0_1_14096256_wf _ _ k a b e ?_).trans ?_
  · pointwise; exact he
  · pointwise

theorem down_arr (c : Dev nD) : V m c main_v11 = truncf .bf16 (Host.gather gather_S64x256x4096_S320x1_S320x256x4096_12_0_n_n_0_1_12564096
      (shapeCast S64x256x4096 (extractStridedSlice S1x64x256x4096 ![1, 0, 0, 0] (m ((c : Thread nD τ).loc main_arg5) : Vec F S2x64x256x4096 .f32)
        slices_S2x64x256x4096_S1x64x256x4096_1_0_0_0) shapeCasts_S1x64x256x4096_S64x256x4096)
      (broadcastInDim S320x1 ![0] bcast_S320_S320x1_0 (m ((c : Thread nD τ).loc main_arg0) : S320.Idx → BitVec 32))) bitsLt_bf16_f32 := by
  dsimp only [V, V0]
  simp only [List.flatten_cons, List.flatten_nil, List.append_nil, List.cons_append, List.nil_append]
  after_results
  try rfl

/-- Tile `k`'s matrix: its expert's, of the second layer, rounded. -/
theorem down_at (c : Dev nD) (k : Fin 320) (a : Fin 256) (b : Fin 4096) (e : Fin 64)
    (he : ((m ((c : Thread nD τ).loc main_arg0) : S320.Idx → BitVec 32) (ix1 k)).toInt.toNat = e.val) :
    (V m c main_v11 : Vec F S320x256x4096 .bf16) (ix3 k a b)
      = FloatOps.truncf .bf16 bitsLt_bf16_f32 ((m ((c : Thread nD τ).loc main_arg5) : Vec F S2x64x256x4096 .f32) (ix4 (1 : Fin 2) e a b)) := by
  rw [down_arr]
  refine congrArg (fun z => FloatOps.truncf (φ := .f32) .bf16 bitsLt_bf16_f32 z) ?_
  refine (take_mat gather_S64x256x4096_S320x1_S320x256x4096_12_0_n_n_0_1_12564096_wf _ _ k a b e ?_).trans ?_
  · pointwise; exact he
  · pointwise

/-! ## The result -/

/-- The result: a row before the end of the tiles in use, else zero. -/
def result (c : Dev nD) : Vec F S81920x16x128 .i32 :=
  select (cmpi .slt (iotaInDim S81920x16x128 32 0) (broadcastInDim S81920x16x128 ![] bcast_S_S81920x16x128
      (muli (m ((c : Thread nD τ).loc main_arg1) : S_.Idx → BitVec 32) (constantI S_ 32 256#32))))
    (all m c) (broadcastInDim S81920x16x128 ![] bcast_S_S81920x16x128 (constantI S_ 32 0#32))

theorem last_eq (c : Dev nD) : Pipeline.afterTail₀ cfgs (dats m) 0 (V0 m) [hostOps1, hostOps1_1] c main_v18 = result m c := by
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.devRef .tc main_v12) = all m c :=
    (Pipeline.withArrays_arr (cfgs 0).spec launch0.win.arr_inj c (V0 m c) (fun w => (dats m 0 c).arrAt w (cfgs 0).N) 4).trans (arr_eq m c)
  unfold Pipeline.afterTail₀ result
  generalize Pipeline.withArrays (cfgs 0).spec c (V0 m c) (fun w => (dats m 0 c).arrAt w (cfgs 0).N) = W at h1 h2 ⊢
  rw [← h1, ← h2]
  simp only [List.flatten_cons, List.flatten_nil, List.append_nil, List.cons_append, List.nil_append]
  after_results
  try rfl

/-- The run with its result. -/
theorem run_result : θ_run defs (onTc (τ := τ) (main (F := F))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h.2 c, h.1 c⟩) (θ_run_and (unchanged m ρ)
    ((θ_run defs _ _).mono (fun r h (c : Dev nD) => show r.2.mem ((c.tc : Thread nD τ).loc main_v18) = result m c from
      ((h c).2 main_v18 (Pipeline.mem_restRefs_of main_v18 (by decide) (by decide))).trans (last_eq m c)) (run_main m ρ)))

end Cert.Reference.Run

end
-- ==== Proof.Equal.lean ====
module

public import proofs.«01_k».proof.Proof.KernelResult
public import proofs.«01_k».proof.Proof.Slabs
public import proofs.«01_k».proof.Proof.RefValue

@[expose] public section

/-! # The kernel's result is the reference's -/

set_option maxRecDepth 16384

noncomputable section

namespace Cert.Equal

open Idealize.ShloMosaic Idealize.ShloMosaic.TcCoe
open Cert.Kernel.Run

variable {F : FTy → Type} [BitOps F]

/-! A weight block of the kernel, as the scratch keeps it, is a matrix of the reference's rounded weights. -/

theorem scratch_gate (v : Vec F Cert.Kernel.S1x1x4096x256 .f32) (w : Vec F Cert.Reference.S1x4096x256 .bf16)
    (h : ∀ a b, w (ix3 (0 : Fin 1) a b) = FloatOps.truncf (φ := .f32) .bf16 Cert.Kernel.Gen.bitsLt_bf16_f32 (v (ix4 (0 : Fin 1) (0 : Fin 1) a b))) :
    Cert.Kernel.Gen.k0_pay2 v = shapeCast Cert.Kernel.S4096x256 w Cert.Reference.Gen.shapeCasts_S1x4096x256_S4096x256 := by
  funext j
  obtain ⟨a, b, rfl⟩ : ∃ a b, j = ix2 a b := ⟨_, _, eq_ix2 j⟩
  unfold Cert.Kernel.Gen.k0_pay2
  pointwise
  exact (h a b).symm

theorem scratch_up (v : Vec F Cert.Kernel.S1x1x4096x256 .f32) (w : Vec F Cert.Reference.S1x4096x256 .bf16)
    (h : ∀ a b, w (ix3 (0 : Fin 1) a b) = FloatOps.truncf (φ := .f32) .bf16 Cert.Kernel.Gen.bitsLt_bf16_f32 (v (ix4 (0 : Fin 1) (0 : Fin 1) a b))) :
    Cert.Kernel.Gen.k0_pay3 v = shapeCast Cert.Kernel.S4096x256 w Cert.Reference.Gen.shapeCasts_S1x4096x256_S4096x256 := by
  funext j
  obtain ⟨a, b, rfl⟩ : ∃ a b, j = ix2 a b := ⟨_, _, eq_ix2 j⟩
  unfold Cert.Kernel.Gen.k0_pay3
  pointwise
  exact (h a b).symm

theorem scratch_down (v : Vec F Cert.Kernel.S1x1x256x4096 .f32) (w : Vec F Cert.Reference.S1x256x4096 .bf16)
    (h : ∀ a b, w (ix3 (0 : Fin 1) a b) = FloatOps.truncf (φ := .f32) .bf16 Cert.Kernel.Gen.bitsLt_bf16_f32 (v (ix4 (0 : Fin 1) (0 : Fin 1) a b))) :
    Cert.Kernel.Gen.k0_pay4 v = shapeCast Cert.Kernel.S256x4096 w Cert.Reference.Gen.shapeCasts_S1x256x4096_S256x4096 := by
  funext j
  obtain ⟨a, b, rfl⟩ : ∃ a b, j = ix2 a b := ⟨_, _, eq_ix2 j⟩
  unfold Cert.Kernel.Gen.k0_pay4
  pointwise
  exact (h a b).symm

variable (m : (ℓ : Loc Cert.Kernel.nD Cert.Kernel.τ Cert.Kernel.sig) → Buf (Elt F) ℓ) (hG : Good m)
  (m' : (ℓ : Loc Cert.Reference.nD Cert.Reference.τ Cert.Reference.sig) → Buf (Elt F) ℓ)

/-- The two memories hold the same arguments. -/
structure Agree (c : Dev Cert.Kernel.nD) : Prop where
  a0 : m' ((c.tc : Thread Cert.Reference.nD Cert.Reference.τ).loc Cert.Reference.main_arg0) = m ((c.tc : Thread Cert.Kernel.nD Cert.Kernel.τ).loc Cert.Kernel.main_arg0)
  a1 : m' ((c.tc : Thread Cert.Reference.nD Cert.Reference.τ).loc Cert.Reference.main_arg1) = m ((c.tc : Thread Cert.Kernel.nD Cert.Kernel.τ).loc Cert.Kernel.main_arg1)
  a2 : m' ((c.tc : Thread Cert.Reference.nD Cert.Reference.τ).loc Cert.Reference.main_arg2) = m ((c.tc : Thread Cert.Kernel.nD Cert.Kernel.τ).loc Cert.Kernel.main_arg2)
  a3 : m' ((c.tc : Thread Cert.Reference.nD Cert.Reference.τ).loc Cert.Reference.main_arg3) = m ((c.tc : Thread Cert.Kernel.nD Cert.Kernel.τ).loc Cert.Kernel.main_arg3)
  a4 : m' ((c.tc : Thread Cert.Reference.nD Cert.Reference.τ).loc Cert.Reference.main_arg4) = m ((c.tc : Thread Cert.Kernel.nD Cert.Kernel.τ).loc Cert.Kernel.main_arg4)
  a5 : m' ((c.tc : Thread Cert.Reference.nD Cert.Reference.τ).loc Cert.Reference.main_arg5) = m ((c.tc : Thread Cert.Kernel.nD Cert.Kernel.τ).loc Cert.Kernel.main_arg5)

variable {m m'} (c : Dev Cert.Kernel.nD) (hA : Agree m m' c)

include hA in
/-- The expert that the reference's index names. -/
theorem expert (k : Fin 320) :
    ((m' ((c.tc : Thread Cert.Reference.nD Cert.Reference.τ).loc Cert.Reference.main_arg0) : Cert.Reference.S320.Idx → BitVec 32) (ix1 k)).toInt.toNat
      = (eF m hG k).val := by
  obtain rfl : c = 0 := Subsingleton.elim _ _
  rw [hA.a0]
  show (teW m k).toInt.toNat = (teW m k).toNat
  have h := hG.te k
  rw [WordCmp.toInt_eq_toNat_of_lt_half (by omega)]
  exact Int.toNat_natCast _

include hA in
/-- The tile a used point leaves is the reference's. -/
theorem used (k : Fin 320) (hu : k.val < (nW m).toNat) :
    outAt m hG c (ptOf k) = Cert.Reference.Run.block (Cert.Reference.Gen.V m' c Cert.Reference.main_arg2)
      (Cert.Reference.Gen.V m' c Cert.Reference.main_v3) (Cert.Reference.Gen.V m' c Cert.Reference.main_v7)
      (Cert.Reference.Gen.V m' c Cert.Reference.main_v11) k := by
  have hx : bx m hG c (ptOf k) = Cert.Reference.Run.rowsAt (Cert.Reference.Gen.V m' c Cert.Reference.main_arg2) k := by
    funext j
    refine (bx_eq m hG c (ptOf k) hu j).trans ?_
    rw [Cert.Reference.Gen.V_main_arg2]
    exact (congrFun hA.a2 _).symm
  have hg := scratch_gate (bg m hG c (ptOf k)) (Cert.Reference.Run.inAt (Cert.Reference.Gen.V m' c Cert.Reference.main_v3) k) (fun a b => by
    refine (Cert.Reference.Run.gate_at m' c k a b (eF m hG k) (expert hG c hA k)).trans ?_
    rw [bg_eq, hA.a3]; rfl)
  have hup := scratch_up (bu m hG c (ptOf k)) (Cert.Reference.Run.inAt (Cert.Reference.Gen.V m' c Cert.Reference.main_v7) k) (fun a b => by
    refine (Cert.Reference.Run.up_at m' c k a b (eF m hG k) (expert hG c hA k)).trans ?_
    rw [bu_eq, hA.a4]; rfl)
  have hd := scratch_down (bd m hG c (ptOf k)) (Cert.Reference.Run.outAt (Cert.Reference.Gen.V m' c Cert.Reference.main_v11) k) (fun a b => by
    refine (Cert.Reference.Run.down_at m' c k a b (eF m hG k) (expert hG c hA k)).trans ?_
    rw [bd_eq, hA.a5]; rfl)
  unfold outAt
  rw [if_pos hu, hx, hg, hup, hd]
  exact tileOut_eq _ _ _ _

/-- A row lies before the end of the tiles in use exactly when its tile is in use. -/
theorem mask_eq (n : BitVec 32) (hn : n.toNat ≤ 320) (r : Fin 81920) :
    IntOp.cmpi .slt (BitVec.ofNat 32 r.val) (n * 256#32) = BitVec.ofBool (decide (r.val / 256 < n.toNat)) := by
  have hr := r.isLt
  have e : (n * 256#32).toNat = n.toNat * 256 := by
    rw [BitVec.toNat_mul]
    show n.toNat * 256 % 4294967296 = _
    exact Nat.mod_eq_of_lt (by omega)
  rw [WordCmp.cmpi_slt_of_lt (by rw [WordCmp.toNat_ofNat_of_lt (by omega)]; omega) (by rw [e]; omega),
    WordCmp.toNat_ofNat_of_lt (by omega), e]
  congr 1
  exact decide_eq_decide.mpr (by omega)

include hA in
/-- **The kernel leaves what the reference leaves.** -/
theorem result_eq : Cert.Reference.Run.result m' c = result m hG c := by
  funext y
  obtain ⟨r, q, l, rfl⟩ : ∃ (r : Fin 81920) (q : Fin 16) (l : Fin 128), y = ix3 r q l := ⟨y 0, y 1, y 2, eq_ix3 y⟩
  have hn : (m' ((c.tc : Thread Cert.Reference.nD Cert.Reference.τ).loc Cert.Reference.main_arg1) : Cert.Reference.S_.Idx → BitVec 32) = fun _ => nW m := by
    obtain rfl : c = 0 := Subsingleton.elim _ _
    rw [hA.a1]
    funext a
    exact congrArg (m (((0 : Dev Cert.Kernel.nD) : Thread Cert.Kernel.nD Cert.Kernel.τ).loc Cert.Kernel.main_arg1) : Cert.Kernel.S_.Idx → BitVec 32)
      (funext fun k => k.elim0)
  have hk := mask_eq (nW m) hG.n_le r
  unfold Cert.Reference.Run.result
  rw [hn]
  show (if IntOp.cmpi .slt (BitVec.ofNat 32 r.val) (nW m * 256#32) = 1#1 then Cert.Reference.Run.all m' c (ix3 r q l) else 0#32)
    = outAt m hG c (ptOf (tileOf r)) (ix3 (inTile r) q l)
  rw [hk]
  by_cases h : r.val / 256 < (nW m).toNat
  · rw [decide_eq_true h, if_pos (show BitVec.ofBool true = 1#1 from rfl), used hG c hA (tileOf r) h]
    rfl
  · rw [decide_eq_false h, if_neg (by decide)]
    unfold outAt
    rw [if_neg (show ¬ (tileOf r).val < (nW m).toNat from h)]
    rfl

end Cert.Equal

end
-- ==== Proof.Product.lean ====
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ReadBack

@[expose] public section

/-! # The input projection: each entry of the tiled product is the reference's sum -/

set_option maxRecDepth 16384

noncomputable section

namespace Cert.Kernel2Ideal.Product

open Cert.Kernel2Ideal Cert.Kernel2Ideal.Gen Cert.Kernel2Ideal.Value
open Idealize.ShloMosaic Idealize.ShloMosaic.TcCoe Idealize.SL.Sem
open Idealize.ShloMosaic.Pipeline (Dat)

section Blocks

variable {F : FTy → Type} [FloatOps F]
variable (c : Dev nD) (i : grid0.Coords)
  (arg2 : Memref sig .tc .vmem S1056x4096 .bf16) (harg2 : arg2.IsWhole)
  (arg3 : Memref sig .tc .vmem S4096x512 .f32) (harg3 : arg3.IsWhole)
  (arg4 : Memref sig .tc .vmem S1056x512 .bf16) (harg4 : arg4.IsWhole)
  (arg5 : Memref sig .tc .vmem S4096x512 .bf16) (harg5 : arg5.IsWhole)
  (x0 : Vec F S1056x4096 .bf16) (x1 : Vec F S4096x512 .f32) (xs : Vec F S4096x512 .bf16)

/-- At a first row tile the block written is the product of the rows with the weights rounded there. -/
theorem out_first (hc : cond0_0 i) :
    out0_A_2 c i arg2 harg2 arg3 harg3 arg4 harg4 arg5 harg5 hc x0 x1 = k0_pay2 x0 (k0_pay1 x1) := by
  frame_out

/-- At a first row tile the scratch is left holding the rounded weights. -/
theorem scratch_first (hc : cond0_0 i) :
    sout0_A_0 c i arg2 harg2 arg3 harg3 arg4 harg4 arg5 harg5 hc x0 x1 = k0_pay1 x1 := by
  frame_out

/-- At a later row tile the block written is the product of the rows with what the scratch holds. -/
theorem out_later (hc : ¬cond0_0 i) :
    out0_B_2 c i arg2 harg2 arg3 harg3 arg4 harg4 arg5 harg5 hc x0 x1 xs = k0_pay2 x0 xs := by
  frame_out

end Blocks

section State

variable {F : FTy → Type} [FloatOps F]
variable (m : (ℓ : Loc nD τ sig) → Buf (Elt F) ℓ) (c : Dev nD)

/-- The weights the kernel reads: the one layer's array without its first axis. -/
theorem weights_eq : V m c main_v0
    = shapeCast S4096x9232 (m ((c : Thread nD τ).loc main_arg1)) shapeCasts_S1x4096x9232_S4096x9232 := by
  dsimp only [V]
  after_results
  try rfl

/-- The tiles' places at each point: rows by its remainder, columns by its quotient. -/
theorem places : ∀ t : Fin cfg0.N, win0_0.index t (0 : Fin 2) = t.val % 8 ∧ win0_0.index t (1 : Fin 2) = 0
    ∧ win0_1.index t (0 : Fin 2) = 0 ∧ win0_1.index t (1 : Fin 2) = t.val / 8 :=
  (by decide +kernel : ∀ t : Fin grid0.N, _)

/-- The rows' tile, entry by entry. -/
theorem rows_at (t : Fin cfg0.N) (p : Fin 1056) (k : Fin 4096) (r : Fin 8448) (hr : r.val = t.val % 8 * 1056 + p.val) :
    iblk m c 0 t (ix2 p k) = m ((c : Thread nD τ).loc main_arg0) (ix2 r k) := by
  obtain ⟨e0, e1, -, -⟩ := places t
  show V m c main_arg0 (((cfg0.win 0).blk t).view.emb (ix2 p k)) = _
  rw [V_main_arg0]
  congr 1
  funext a
  apply Fin.ext
  match a with
  | ⟨0, _⟩ => show win0_0.index t (0 : Fin 2) * 1056 + 1 * p.val = r.val; omega
  | ⟨1, _⟩ => show win0_0.index t (1 : Fin 2) * 4096 + 1 * k.val = k.val; omega

/-- The weights' tile, entry by entry. -/
theorem cols_at (t : Fin cfg0.N) (k : Fin 4096) (q : Fin 512) (s : Fin 9232) (hs : s.val = t.val / 8 * 512 + q.val) :
    X0_1 m c t (ix2 k q) = V m c main_v0 (ix2 k s) := by
  obtain ⟨-, -, e0, e1⟩ := places t
  unfold X0_1 Pipeline.Window.fill
  rw [dif_pos (moved0_1 t (ix2 k q))]
  show V m c main_v0 (((cfg0.win 1).blk t).view.emb _) = _
  congr 1
  funext a
  apply Fin.ext
  match a with
  | ⟨0, _⟩ => show win0_1.index t (0 : Fin 2) * 4096 + 1 * k.val = k.val; omega
  | ⟨1, _⟩ => show win0_1.index t (1 : Fin 2) * 512 + 1 * q.val = s.val; omega

/-- Points of one column tile read the same weights. -/
theorem same_cols (t t' : Fin cfg0.N) (h : t.val / 8 = t'.val / 8) : X0_1 m c t = X0_1 m c t' := by
  funext j
  have ht : t.val < 144 := lt_of_lt_of_eq t.isLt N_0
  have hq : (j (1 : Fin 2)).val < 512 := (j (1 : Fin 2)).isLt
  have e : j = ix2 (n0 := 4096) (n1 := 512) (j (0 : Fin 2)) (j (1 : Fin 2)) := eq_ix2 j
  have hs : t.val / 8 * 512 + (j (1 : Fin 2)).val < 9232 := by omega
  rw [e]
  exact (cols_at m c t _ _ ⟨_, hs⟩ rfl).trans
    (cols_at m c t' _ _ ⟨_, hs⟩ (congrArg (fun b => b * 512 + (j (1 : Fin 2)).val) h)).symm

/-- After every point: the block written is the rows' tile times the column tile's rounded weights, and the
    scratch holds those weights. -/
theorem state (n : ℕ) (hn : n < cfg0.N) : outsAt0 m c n hn
    = (k0_pay2 (iblk m c 0 ⟨n, hn⟩) (k0_pay1 (X0_1 m c ⟨n, hn⟩)), k0_pay1 (X0_1 m c ⟨n, hn⟩)) := by
  induction n with
  | zero => rw [outsAt0_A m c ⟨0, hn⟩ (Nat.zero_mod _), out_first, scratch_first]
  | succ n ih =>
    by_cases h0 : (n + 1) % 8 = 0
    · rw [outsAt0_A m c ⟨n + 1, hn⟩ h0, out_first, scratch_first]
    · rw [outsAt0_B m c ⟨n + 1, hn⟩ h0, out_later]
      have hs : (outsAt0 m c n (Nat.lt_of_succ_lt hn)).2 = k0_pay1 (X0_1 m c ⟨n + 1, hn⟩) := by
        rw [ih, same_cols m c ⟨n, Nat.lt_of_succ_lt hn⟩ ⟨n + 1, hn⟩ (by show n / 8 = (n + 1) / 8; omega)]
      unfold sout0_B_0
      show (k0_pay2 _ (outsAt0 m c n (Nat.lt_of_succ_lt hn)).2, (outsAt0 m c n (Nat.lt_of_succ_lt hn)).2) = _
      rw [hs]

/-- The result array, entry by entry: the block of the point that covers the entry. -/
theorem result_at (y : S8448x9216.Idx) (h : pt2Of y < cfg0.N) :
    G2 m c y = k0_pay2 (iblk m c 0 ⟨pt2Of y, h⟩) (k0_pay1 (X0_1 m c ⟨pt2Of y, h⟩)) (loc2Of y) := by
  unfold G2
  rw [dif_pos h, ← outsAt0_sweep m c _ h, state]

end State

section Sum

variable (m : (ℓ : Loc nD τ sig) → Buf (Elt Ideal) ℓ) (c : Dev nD)

/-- An entry of the projection: a row of the input times a column of the layer's weights. -/
def entry (z : FVec Ideal S8448x4096 .bf16) (w : FVec Ideal S1x4096x9232 .f32) (r : Fin 8448) (s : Fin 9232) : EReal :=
  ∑ k : Fin 4096, (z (ix2 r k) : EReal) * (w (ix3 0 k s) : EReal)

/-- A block of the product, entry by entry, over the extended reals. -/
theorem block_at (x0 : FVec Ideal S1056x4096 .bf16) (x1 : FVec Ideal S4096x512 .f32) (p : Fin 1056) (q : Fin 512) :
    (k0_pay2 (F := Ideal) x0 (k0_pay1 (F := Ideal) x1) (ix2 p q) : EReal)
      = ∑ k : Fin 4096, (x0 (ix2 p k) : EReal) * (x1 (ix2 k q) : EReal) := by
  unfold k0_pay2 k0_pay1
  pointwise
  done

/-- An array of one layer without its first axis, entry by entry. -/
theorem layer_at (w : FVec Ideal S1x4096x9232 .f32) (k : Fin 4096) (s : Fin 9232) :
    shapeCast S4096x9232 w shapeCasts_S1x4096x9232_S4096x9232 (ix2 k s) = w (ix3 0 k s) := by
  pointwise
  done

/-- The layer's weights as the kernel reads them, entry by entry. -/
theorem weights_at (k : Fin 4096) (s : Fin 9232) :
    V m c main_v0 (ix2 k s) = m ((c : Thread nD τ).loc main_arg1) (ix3 0 k s) := by
  rw [weights_eq]
  exact layer_at _ k s

/-- What the kernel leaves in the result array. -/
theorem kernel_at (y : S8448x9216.Idx) : (G2 m c y : EReal) = entry (m ((c : Thread nD τ).loc main_arg0))
    (m ((c : Thread nD τ).loc main_arg1)) (y (0 : Fin 2)) ((y (1 : Fin 2)).castLE (by decide)) := by
  have h0 : (y (0 : Fin 2)).val < 8448 := (y (0 : Fin 2)).isLt
  have h1 : (y (1 : Fin 2)).val < 9216 := (y (1 : Fin 2)).isLt
  have hN : cfg0.N = 144 := N_0
  have ep : pt2Of y = (y (0 : Fin 2)).val / 1056 + 8 * ((y (1 : Fin 2)).val / 512) := by
    show 1 * ((y (0 : Fin 2)).val / 1056 - 0) + 8 * ((y (1 : Fin 2)).val / 512 - 0) = _; omega
  have hp : pt2Of y < cfg0.N := by rw [ep]; omega
  have el : loc2Of y = ix2 ⟨(y (0 : Fin 2)).val % 1056, Nat.mod_lt _ (by decide)⟩
      ⟨(y (1 : Fin 2)).val % 512, Nat.mod_lt _ (by decide)⟩ := eq_ix2 (loc2Of y)
  rw [result_at m c y hp, el]
  refine (block_at _ _ _ _).trans (Finset.sum_congr rfl fun k _ => ?_)
  exact congrArg₂ (fun a b : EReal => a * b)
    (rows_at m c ⟨pt2Of y, hp⟩ ⟨(y (0 : Fin 2)).val % 1056, Nat.mod_lt _ (by decide)⟩ k (y (0 : Fin 2))
      (by show (y (0 : Fin 2)).val = pt2Of y % 8 * 1056 + (y (0 : Fin 2)).val % 1056; rw [ep]; omega))
    ((cols_at m c ⟨pt2Of y, hp⟩ k ⟨(y (1 : Fin 2)).val % 512, Nat.mod_lt _ (by decide)⟩ ((y (1 : Fin 2)).castLE (by decide))
      (by show (y (1 : Fin 2)).val = pt2Of y / 8 * 512 + (y (1 : Fin 2)).val % 512; rw [ep]; omega)).trans
      (weights_at m c k _))

/-- What the reference computes of its arguments. -/
def product (z : FVec Ideal S8448x4096 .bf16) (w : FVec Ideal S1x4096x9232 .f32) : FVec Ideal S8448x9216 .bf16 :=
  truncf .bf16 (Host.dotGeneral Cert.Reference2Ideal.dot_S8448x4096_S4096x9216_S8448x9216_1_0_0_1_n_n none
    (extf .f32 z Cert.Reference2Ideal.Facts₀.bitsLt_bf16_f32)
    (extractStridedSlice Cert.Reference2Ideal.S4096x9216 ![0, 0]
      (shapeCast Cert.Reference2Ideal.S4096x9232 w Cert.Reference2Ideal.Facts₀.shapeCasts_S1x4096x9232_S4096x9232)
      Cert.Reference2Ideal.Facts₀.slices_S4096x9232_S4096x9216_0_0 : FVec Ideal Cert.Reference2Ideal.S4096x9216 .f32) :
      FVec Ideal Cert.Reference2Ideal.S8448x9216 .f32) Cert.Reference2Ideal.Facts₀.bitsLt_bf16_f32

/-- The reference's result, entry by entry. -/
theorem product_at (z : FVec Ideal S8448x4096 .bf16) (w : FVec Ideal S1x4096x9232 .f32) (r : Fin 8448) (s : Fin 9216) :
    (product z w (ix2 r s) : EReal) = entry z w r (s.castLE (by decide)) := by
  unfold product entry
  pointwise
  rfl

/-- The two programs' results agree wherever their arguments do. -/
theorem result_eq : G2 m c = product (m ((c : Thread nD τ).loc main_arg0)) (m ((c : Thread nD τ).loc main_arg1)) := by
  funext y
  refine (kernel_at m c y).trans ?_
  conv_rhs => rw [eq_ix2 (n0 := 8448) (n1 := 9216) y]
  exact (product_at _ _ _ _).symm

end Sum

end Cert.Kernel2Ideal.Product

end
-- ==== Proof.Output.lean ====
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

/-! # The output projection: each entry of the tiled, gated residual is the reference's -/

set_option maxRecDepth 16384

noncomputable section

namespace Cert.Kernel3Ideal.Product

open Cert.Kernel3Ideal Cert.Kernel3Ideal.Gen Cert.Kernel3Ideal.Value
open Idealize.ShloMosaic Idealize.ShloMosaic.TcCoe Idealize.SL.Sem
open Idealize.ShloMosaic.Pipeline (Dat)

section Blocks

variable {F : FTy → Type} [FloatOps F]
variable (c : Dev nD) (i : grid0.Coords)
  (arg2 : Memref sig .tc .vmem S768x2048 .bf16) (harg2 : arg2.IsWhole)
  (arg3 : Memref sig .tc .vmem S768x2048 .bf16) (harg3 : arg3.IsWhole)
  (arg4 : Memref sig .tc .vmem S2048x512 .f32) (harg4 : arg4.IsWhole)
  (arg5 : Memref sig .tc .vmem S2048x512 .f32) (harg5 : arg5.IsWhole)
  (arg6 : Memref sig .tc .vmem S768x512 .f32) (harg6 : arg6.IsWhole)
  (arg7 : Memref sig .tc .vmem S2x6x512 .f32) (harg7 : arg7.IsWhole)
  (arg8 : Memref sig .tc .vmem S768x512 .f32) (harg8 : arg8.IsWhole)
  (arg9 : Memref sig .tc .vmem S2048x512 .bf16) (harg9 : arg9.IsWhole)
  (arg10 : Memref sig .tc .vmem S2048x512 .bf16) (harg10 : arg10.IsWhole)
  (x0 x1 : Vec F S768x2048 .bf16) (x2 x3 : Vec F S2048x512 .f32) (x4 : Vec F S768x512 .f32) (x5 : Vec F S2x6x512 .f32)
  (y0 y1 : Vec F S2048x512 .bf16)

/-- A block of the result: the residual and the gated sum of the two products. -/
def block (y0 y1 : Vec F S2048x512 .bf16) : Vec F S768x512 .f32 :=
  k0_pay3 i x0 y0 x1 y1 x4
    (View.ld x5 (Rect.unit (s := S2x6x512) ![0, 2, 0] S1x1x512.size inb_S2x6x512_S1x1x512_0_2_0))
    (View.ld x5 (Rect.unit (s := S2x6x512) ![1, 2, 0] S1x1x512.size inb_S2x6x512_S1x1x512_1_2_0))

/-- At a first row tile the block is taken with the weights rounded there. -/
theorem out_first (hc : cond0_0 i) :
    out0_A_6 c i arg2 harg2 arg3 harg3 arg4 harg4 arg5 harg5 arg6 harg6 arg7 harg7 arg8 harg8 arg9 harg9 arg10 harg10 hc
      x0 x1 x2 x3 x4 x5 = block i x0 x1 x4 x5 (k0_pay1 x2) (k0_pay2 x3) := by
  frame_out
  rfl

/-- At a first row tile the scratches are left holding the rounded weights. -/
theorem scratch_first (hc : cond0_0 i) :
    sout0_A_0 c i arg2 harg2 arg3 harg3 arg4 harg4 arg5 harg5 arg6 harg6 arg7 harg7 arg8 harg8 arg9 harg9 arg10 harg10 hc
      x0 x1 x2 x3 x4 x5 = k0_pay1 x2
    ∧ sout0_A_1 c i arg2 harg2 arg3 harg3 arg4 harg4 arg5 harg5 arg6 harg6 arg7 harg7 arg8 harg8 arg9 harg9 arg10 harg10 hc
      x0 x1 x2 x3 x4 x5 = k0_pay2 x3 := by
  constructor
  · frame_out
  · frame_out

/-- At a later row tile the block is taken with what the scratches hold. -/
theorem out_later (hc : ¬cond0_0 i) :
    out0_B_6 c i arg2 harg2 arg3 harg3 arg4 harg4 arg5 harg5 arg6 harg6 arg7 harg7 arg8 harg8 arg9 harg9 arg10 harg10 hc
      x0 x1 x2 x3 x4 x5 y0 y1 = block i x0 x1 x4 x5 y0 y1 := by
  frame_out
  rfl

end Blocks

section State

variable {F : FTy → Type} [FloatOps F]
variable (m : (ℓ : Loc nD τ sig) → Buf (Elt F) ℓ) (c : Dev nD)

/-- The weights the kernel reads: the one layer's array without its first axis. -/
theorem weights_eq : V m c main_v0
    = shapeCast S4096x4096 (m ((c : Thread nD τ).loc main_arg2)) shapeCasts_S1x4096x4096_S4096x4096 := by
  dsimp only [V]
  after_results
  try rfl

/-- The input tiles' places at each point: rows by its remainder, columns by its quotient. -/
theorem places : ∀ t : Fin cfg0.N, win0_0.index t (0 : Fin 2) = t.val % 11 ∧ win0_0.index t (1 : Fin 2) = 0
    ∧ win0_1.index t (0 : Fin 2) = t.val % 11 ∧ win0_1.index t (1 : Fin 2) = 0
    ∧ win0_2.index t (0 : Fin 2) = 0 ∧ win0_2.index t (1 : Fin 2) = t.val / 11
    ∧ win0_3.index t (0 : Fin 2) = 1 ∧ win0_3.index t (1 : Fin 2) = t.val / 11
    ∧ win0_4.index t (0 : Fin 2) = t.val % 11 ∧ win0_4.index t (1 : Fin 2) = t.val / 11
    ∧ win0_5.index t (0 : Fin 3) = 0 ∧ win0_5.index t (1 : Fin 3) = 0 ∧ win0_5.index t (2 : Fin 3) = t.val / 11
    ∧ (grid0.coords t 1).val = t.val % 11 :=
  (by decide +kernel : ∀ t : Fin grid0.N, _)

/-- The first factor's tile, entry by entry. -/
theorem first_at (t : Fin cfg0.N) (p : Fin 768) (k : Fin 2048) (r : Fin 8448) (hr : r.val = t.val % 11 * 768 + p.val) :
    iblk m c 0 t (ix2 p k) = m ((c : Thread nD τ).loc main_arg0) (ix2 r k) := by
  obtain ⟨e0, e1, -⟩ := places t
  show V m c main_arg0 (((cfg0.win 0).blk t).view.emb (ix2 p k)) = _
  rw [V_main_arg0]
  congr 1
  funext a
  apply Fin.ext
  match a with
  | ⟨0, _⟩ => show win0_0.index t (0 : Fin 2) * 768 + 1 * p.val = r.val; omega
  | ⟨1, _⟩ => show win0_0.index t (1 : Fin 2) * 2048 + 1 * k.val = k.val; omega

/-- The second factor's tile, entry by entry. -/
theorem second_at (t : Fin cfg0.N) (p : Fin 768) (k : Fin 2048) (r : Fin 8448) (hr : r.val = t.val % 11 * 768 + p.val) :
    iblk m c 1 t (ix2 p k) = m ((c : Thread nD τ).loc main_arg1) (ix2 r k) := by
  obtain ⟨-, -, e0, e1, -⟩ := places t
  show V m c main_arg1 (((cfg0.win 1).blk t).view.emb (ix2 p k)) = _
  rw [V_main_arg1]
  congr 1
  funext a
  apply Fin.ext
  match a with
  | ⟨0, _⟩ => show win0_1.index t (0 : Fin 2) * 768 + 1 * p.val = r.val; omega
  | ⟨1, _⟩ => show win0_1.index t (1 : Fin 2) * 2048 + 1 * k.val = k.val; omega

/-- The tile of the weights' upper half, entry by entry. -/
theorem upper_at (t : Fin cfg0.N) (k : Fin 2048) (q : Fin 512) (s : Fin 4096) (hs : s.val = t.val / 11 * 512 + q.val) :
    iblk m c 2 t (ix2 k q) = V m c main_v0 (ix2 (k.castAdd 2048 : Fin 4096) s) := by
  obtain ⟨-, -, -, -, e0, e1, -⟩ := places t
  show V m c main_v0 (((cfg0.win 2).blk t).view.emb (ix2 k q)) = _
  congr 1
  funext a
  apply Fin.ext
  match a with
  | ⟨0, _⟩ => show win0_2.index t (0 : Fin 2) * 2048 + 1 * k.val = k.val; omega
  | ⟨1, _⟩ => show win0_2.index t (1 : Fin 2) * 512 + 1 * q.val = s.val; omega

/-- The tile of the weights' lower half, entry by entry. -/
theorem lower_at (t : Fin cfg0.N) (k : Fin 2048) (q : Fin 512) (s : Fin 4096) (hs : s.val = t.val / 11 * 512 + q.val) :
    iblk m c 3 t (ix2 k q) = V m c main_v0 (ix2 (k.natAdd 2048 : Fin 4096) s) := by
  obtain ⟨-, -, -, -, -, -, e0, e1, -⟩ := places t
  show V m c main_v0 (((cfg0.win 3).blk t).view.emb (ix2 k q)) = _
  congr 1
  funext a
  apply Fin.ext
  match a with
  | ⟨0, _⟩ => show win0_3.index t (0 : Fin 2) * 2048 + 1 * k.val = 2048 + k.val; omega
  | ⟨1, _⟩ => show win0_3.index t (1 : Fin 2) * 512 + 1 * q.val = s.val; omega

/-- The residual's tile, entry by entry. -/
theorem residual_at (t : Fin cfg0.N) (p : Fin 768) (q : Fin 512) (r : Fin 8448) (s : Fin 4096)
    (hr : r.val = t.val % 11 * 768 + p.val) (hs : s.val = t.val / 11 * 512 + q.val) :
    iblk m c 4 t (ix2 p q) = m ((c : Thread nD τ).loc main_arg3) (ix2 r s) := by
  obtain ⟨-, -, -, -, -, -, -, -, e0, e1, -⟩ := places t
  show V m c main_arg3 (((cfg0.win 4).blk t).view.emb (ix2 p q)) = _
  rw [V_main_arg3]
  congr 1
  funext a
  apply Fin.ext
  match a with
  | ⟨0, _⟩ => show win0_4.index t (0 : Fin 2) * 768 + 1 * p.val = r.val; omega
  | ⟨1, _⟩ => show win0_4.index t (1 : Fin 2) * 512 + 1 * q.val = s.val; omega

/-- The modulation's tile, entry by entry. -/
theorem gates_at (t : Fin cfg0.N) (u : Fin 2) (g : Fin 6) (q : Fin 512) (s : Fin 4096)
    (hs : s.val = t.val / 11 * 512 + q.val) :
    iblk m c 5 t (ix3 u g q) = m ((c : Thread nD τ).loc main_arg4) (ix3 u g s) := by
  obtain ⟨-, -, -, -, -, -, -, -, -, -, e0, e1, e2, -⟩ := places t
  show V m c main_arg4 (((cfg0.win 5).blk t).view.emb (ix3 u g q)) = _
  rw [V_main_arg4]
  congr 1
  funext a
  apply Fin.ext
  match a with
  | ⟨0, _⟩ => show win0_5.index t (0 : Fin 3) * 2 + 1 * u.val = u.val; omega
  | ⟨1, _⟩ => show win0_5.index t (1 : Fin 3) * 6 + 1 * g.val = g.val; omega
  | ⟨2, _⟩ => show win0_5.index t (2 : Fin 3) * 512 + 1 * q.val = s.val; omega

/-- Points of one column tile read the same weights. -/
theorem same_cols (t t' : Fin cfg0.N) (h : t.val / 11 = t'.val / 11) :
    iblk m c 2 t = iblk m c 2 t' ∧ iblk m c 3 t = iblk m c 3 t' := by
  have ht : t.val < 88 := lt_of_lt_of_eq t.isLt N_0
  constructor <;> funext j
  all_goals
    have hq : (j (1 : Fin 2)).val < 512 := (j (1 : Fin 2)).isLt
    have e : j = ix2 (n0 := 2048) (n1 := 512) (j (0 : Fin 2)) (j (1 : Fin 2)) := eq_ix2 j
    have hs : t.val / 11 * 512 + (j (1 : Fin 2)).val < 4096 := by omega
    rw [e]
  · exact (upper_at m c t _ _ ⟨_, hs⟩ rfl).trans
      (upper_at m c t' _ _ ⟨_, hs⟩ (congrArg (fun b => b * 512 + (j (1 : Fin 2)).val) h)).symm
  · exact (lower_at m c t _ _ ⟨_, hs⟩ rfl).trans
      (lower_at m c t' _ _ ⟨_, hs⟩ (congrArg (fun b => b * 512 + (j (1 : Fin 2)).val) h)).symm

/-- The block of the result that belongs to a point. -/
def blockOf (t : Fin cfg0.N) : Vec F S768x512 .f32 :=
  block (grid0.coords t) (iblk m c 0 t) (iblk m c 1 t) (iblk m c 4 t) (iblk m c 5 t)
    (k0_pay1 (iblk m c 2 t)) (k0_pay2 (iblk m c 3 t))

/-- After every point: the block written is the point's, and the scratches hold its column tile's rounded weights. -/
theorem state (n : ℕ) (hn : n < cfg0.N) : outsAt0 m c n hn
    = (blockOf m c ⟨n, hn⟩, k0_pay1 (iblk m c 2 ⟨n, hn⟩), k0_pay2 (iblk m c 3 ⟨n, hn⟩)) := by
  induction n with
  | zero =>
    rw [outsAt0_A m c ⟨0, hn⟩ (Nat.zero_mod _), out_first, (scratch_first ..).1, (scratch_first ..).2]
    rfl
  | succ n ih =>
    by_cases h0 : (n + 1) % 11 = 0
    · rw [outsAt0_A m c ⟨n + 1, hn⟩ h0, out_first, (scratch_first ..).1, (scratch_first ..).2]
      rfl
    · rw [outsAt0_B m c ⟨n + 1, hn⟩ h0, out_later]
      have hs : (outsAt0 m c n (Nat.lt_of_succ_lt hn)).2
          = (k0_pay1 (iblk m c 2 ⟨n + 1, hn⟩), k0_pay2 (iblk m c 3 ⟨n + 1, hn⟩)) := by
        obtain ⟨e2, e3⟩ := same_cols m c ⟨n, Nat.lt_of_succ_lt hn⟩ ⟨n + 1, hn⟩
          (by show n / 11 = (n + 1) / 11; omega)
        rw [ih, e2, e3]
      unfold sout0_B_0 sout0_B_1
      show (block _ _ _ _ _ (outsAt0 m c n (Nat.lt_of_succ_lt hn)).2.1 (outsAt0 m c n (Nat.lt_of_succ_lt hn)).2.2,
        (outsAt0 m c n (Nat.lt_of_succ_lt hn)).2.1, (outsAt0 m c n (Nat.lt_of_succ_lt hn)).2.2) = _
      rw [hs]
      rfl

/-- The result array, entry by entry: the block of the point that covers the entry. -/
theorem result_at (y : S8448x4096.Idx) (h : pt6Of y < cfg0.N) :
    G6 m c y = blockOf m c ⟨pt6Of y, h⟩ (loc6Of y) := by
  unfold G6
  rw [dif_pos h, ← outsAt0_sweep m c _ h, state]

end State

section Sum

variable (m : (ℓ : Loc nD τ sig) → Buf (Elt Ideal) ℓ) (c : Dev nD)

/-- The gate of a row and a column: the context's for the first 256 rows, else the target's. -/
def gate (r : ℕ) (x y : EReal) : EReal :=
  Ideal.tanh (Scalar.select (IntOp.cmpi .slt (BitVec.ofNat 32 r) 256#32) x y)

/-- An entry of the output projection: the residual, and the gated sum of the two halves' products. -/
def entry (a b : FVec Ideal S8448x2048 .bf16) (w : FVec Ideal S1x4096x4096 .f32) (h : FVec Ideal S8448x4096 .f32)
    (g : FVec Ideal S2x6x4096 .f32) (r : Fin 8448) (s : Fin 4096) : EReal :=
  (h (ix2 r s) : EReal) + gate r.val (g (ix3 1 2 s)) (g (ix3 0 2 s))
    * (∑ k : Fin 2048, (a (ix2 r k) : EReal) * (w (ix3 0 (k.castAdd 2048 : Fin 4096) s) : EReal)
      + ∑ k : Fin 2048, (b (ix2 r k) : EReal) * (w (ix3 0 (k.natAdd 2048 : Fin 4096) s) : EReal))

/-- A block of the result, entry by entry, over the extended reals. -/
theorem block_at (i : grid0.Coords) (x0 x1 : FVec Ideal S768x2048 .bf16) (x2 x3 : FVec Ideal S2048x512 .f32)
    (x4 : FVec Ideal S768x512 .f32) (x5 : FVec Ideal S2x6x512 .f32) (p : Fin 768) (q : Fin 512) :
    (block (F := Ideal) i x0 x1 x4 x5 (k0_pay1 (F := Ideal) x2) (k0_pay2 (F := Ideal) x3) (ix2 p q) : EReal)
      = (x4 (ix2 p q) : EReal) + gate ((i 1).val * 768 + p.val) (x5 (ix3 1 2 q)) (x5 (ix3 0 2 q))
        * (∑ k : Fin 2048, (x0 (ix2 p k) : EReal) * (x2 (ix2 k q) : EReal)
          + ∑ k : Fin 2048, (x1 (ix2 p k) : EReal) * (x3 (ix2 k q) : EReal)) := by
  have e : BitVec.ofNat 32 ((i 1).val * 768 + p.val)
      = IntOp.addi (Scalar.muli (BitVec.ofNat 32 (i 1).val) 768#32) (BitVec.ofNat 32 p.val) := by
    rw [BitVec.ofNat_add, BitVec.ofNat_mul]
    rfl
  unfold gate
  rw [e]
  unfold block k0_pay3 k0_pay1 k0_pay2
  pointwise
  done

/-- An array of one layer without its first axis, entry by entry. -/
theorem layer_at (w : FVec Ideal S1x4096x4096 .f32) (k : Fin 4096) (s : Fin 4096) :
    shapeCast S4096x4096 w shapeCasts_S1x4096x4096_S4096x4096 (ix2 k s) = w (ix3 0 k s) := by
  pointwise
  done

/-- The layer's weights as the kernel reads them, entry by entry. -/
theorem weights_at (k : Fin 4096) (s : Fin 4096) :
    V m c main_v0 (ix2 k s) = m ((c : Thread nD τ).loc main_arg2) (ix3 0 k s) := by
  rw [weights_eq]
  exact layer_at _ k s

/-- A point's block, entry by entry, in the arguments. -/
theorem blockOf_at (t : Fin cfg0.N) (p : Fin 768) (q : Fin 512) (r : Fin 8448) (s : Fin 4096)
    (hr : r.val = t.val % 11 * 768 + p.val) (hs : s.val = t.val / 11 * 512 + q.val) :
    (blockOf m c t (ix2 p q) : EReal) = entry (m ((c : Thread nD τ).loc main_arg0)) (m ((c : Thread nD τ).loc main_arg1))
      (m ((c : Thread nD τ).loc main_arg2)) (m ((c : Thread nD τ).loc main_arg3)) (m ((c : Thread nD τ).loc main_arg4)) r s := by
  obtain ⟨-, -, -, -, -, -, -, -, -, -, -, -, -, ei⟩ := places t
  refine (block_at _ _ _ _ _ _ _ _ _).trans ?_
  unfold entry
  rw [ei, ← hr]
  refine congrArg₂ (fun a b : EReal => a + b) (residual_at m c t p q r s hr hs)
    (congrArg₂ (fun a b : EReal => a * b)
      (congrArg₂ (gate r.val) (gates_at m c t 1 2 q s hs) (gates_at m c t 0 2 q s hs))
      (congrArg₂ (fun a b : EReal => a + b) (Finset.sum_congr rfl fun k _ => ?_) (Finset.sum_congr rfl fun k _ => ?_)))
  · exact congrArg₂ (fun a b : EReal => a * b) (first_at m c t p k r hr)
      ((upper_at m c t k q s hs).trans (weights_at m c _ s))
  · exact congrArg₂ (fun a b : EReal => a * b) (second_at m c t p k r hr)
      ((lower_at m c t k q s hs).trans (weights_at m c _ s))

/-- What the kernel leaves in the result array. -/
theorem kernel_at (y : S8448x4096.Idx) : (G6 m c y : EReal) = entry (m ((c : Thread nD τ).loc main_arg0))
    (m ((c : Thread nD τ).loc main_arg1)) (m ((c : Thread nD τ).loc main_arg2)) (m ((c : Thread nD τ).loc main_arg3))
    (m ((c : Thread nD τ).loc main_arg4)) (y (0 : Fin 2)) (y (1 : Fin 2)) := by
  have h0 : (y (0 : Fin 2)).val < 8448 := (y (0 : Fin 2)).isLt
  have h1 : (y (1 : Fin 2)).val < 4096 := (y (1 : Fin 2)).isLt
  have hN : cfg0.N = 88 := N_0
  have ep : pt6Of y = (y (0 : Fin 2)).val / 768 + 11 * ((y (1 : Fin 2)).val / 512) := by
    show 1 * ((y (0 : Fin 2)).val / 768 - 0) + 11 * ((y (1 : Fin 2)).val / 512 - 0) = _; omega
  have hp : pt6Of y < cfg0.N := by rw [ep]; omega
  have el : loc6Of y = ix2 ⟨(y (0 : Fin 2)).val % 768, Nat.mod_lt _ (by decide)⟩
      ⟨(y (1 : Fin 2)).val % 512, Nat.mod_lt _ (by decide)⟩ := eq_ix2 (loc6Of y)
  rw [result_at m c y hp, el]
  exact blockOf_at m c ⟨pt6Of y, hp⟩ _ _ _ _
    (by show (y (0 : Fin 2)).val = pt6Of y % 11 * 768 + (y (0 : Fin 2)).val % 768; rw [ep]; omega)
    (by show (y (1 : Fin 2)).val = pt6Of y / 11 * 512 + (y (1 : Fin 2)).val % 512; rw [ep]; omega)

/-- What the reference computes of its arguments. -/
def product (a b : FVec Ideal S8448x2048 .bf16) (w : FVec Ideal S1x4096x4096 .f32) (h : FVec Ideal S8448x4096 .f32)
    (g : FVec Ideal S2x6x4096 .f32) : FVec Ideal S8448x4096 .f32 :=
  addf h (mulf
    (select (cmpi .slt (iotaInDim Cert.Reference3Ideal.S8448x4096 32 0)
        (broadcastInDim Cert.Reference3Ideal.S8448x4096 ![] Cert.Reference3Ideal.Facts₀.bcast_S_S8448x4096
          (constantI Cert.Reference3Ideal.S_ 32 256#32)))
      (broadcastInDim Cert.Reference3Ideal.S8448x4096 ![1] Cert.Reference3Ideal.Facts₀.bcast_S4096_S8448x4096_1
        (Host.tanh (shapeCast Cert.Reference3Ideal.S4096 (extractStridedSlice Cert.Reference3Ideal.S1x1x4096 ![1, 2, 0] g
          Cert.Reference3Ideal.Facts₀.slices_S2x6x4096_S1x1x4096_1_2_0 : FVec Ideal Cert.Reference3Ideal.S1x1x4096 .f32)
          Cert.Reference3Ideal.Facts₀.shapeCasts_S1x1x4096_S4096 : FVec Ideal Cert.Reference3Ideal.S4096 .f32)
          : FVec Ideal Cert.Reference3Ideal.S4096 .f32))
      (broadcastInDim Cert.Reference3Ideal.S8448x4096 ![1] Cert.Reference3Ideal.Facts₀.bcast_S4096_S8448x4096_1
        (Host.tanh (shapeCast Cert.Reference3Ideal.S4096 (extractStridedSlice Cert.Reference3Ideal.S1x1x4096 ![0, 2, 0] g
          Cert.Reference3Ideal.Facts₀.slices_S2x6x4096_S1x1x4096_0_2_0 : FVec Ideal Cert.Reference3Ideal.S1x1x4096 .f32)
          Cert.Reference3Ideal.Facts₀.shapeCasts_S1x1x4096_S4096 : FVec Ideal Cert.Reference3Ideal.S4096 .f32)
          : FVec Ideal Cert.Reference3Ideal.S4096 .f32)) : FVec Ideal Cert.Reference3Ideal.S8448x4096 .f32)
    (Host.dotGeneral Cert.Reference3Ideal.dot_S8448x4096_S4096x4096_S8448x4096_1_0_0_1_n_n none
      (extf .f32 (concatenate Cert.Reference3Ideal.S8448x4096 1 [⟨Cert.Reference3Ideal.S8448x2048, a⟩, ⟨Cert.Reference3Ideal.S8448x2048, b⟩]
        Cert.Reference3Ideal.Facts₀.concatenates_S8448x2048_S8448x2048_S8448x4096_d1 : FVec Ideal Cert.Reference3Ideal.S8448x4096 .bf16)
        Cert.Reference3Ideal.Facts₀.bitsLt_bf16_f32)
      (shapeCast Cert.Reference3Ideal.S4096x4096 w Cert.Reference3Ideal.Facts₀.shapeCasts_S1x4096x4096_S4096x4096)
      : FVec Ideal Cert.Reference3Ideal.S8448x4096 .f32))

/-- Equal arguments, equal results. -/
theorem product_congr {a a' b b' : FVec Ideal S8448x2048 .bf16} {w w' : FVec Ideal S1x4096x4096 .f32} {h h' : FVec Ideal S8448x4096 .f32}
    {g g' : FVec Ideal S2x6x4096 .f32}
    (e : a' = a ∧ b' = b ∧ w' = w ∧ h' = h ∧ g' = g) :
    product a' b' w' h' g' = product a b w h g := by
  obtain ⟨rfl, rfl, rfl, rfl, rfl⟩ := e
  rfl

/-- The reference's result, entry by entry. -/
theorem product_at (a b : FVec Ideal S8448x2048 .bf16) (w : FVec Ideal S1x4096x4096 .f32) (h : FVec Ideal S8448x4096 .f32)
    (g : FVec Ideal S2x6x4096 .f32) (r : Fin 8448) (s : Fin 4096) :
    (product a b w h g (ix2 r s) : EReal) = entry a b w h g r s := by
  have e : gate r.val (g (ix3 1 2 s)) (g (ix3 0 2 s)) = Scalar.select (IntOp.cmpi .slt (BitVec.ofNat 32 r.val) 256#32)
      (Ideal.tanh (g (ix3 1 2 s))) (Ideal.tanh (g (ix3 0 2 s))) := by
    unfold gate Scalar.select
    split <;> rfl
  unfold entry
  rw [e]
  unfold product
  pointwise
  rfl

/-- The two programs' results agree wherever their arguments do. -/
theorem result_eq : G6 m c = product (m ((c : Thread nD τ).loc main_arg0)) (m ((c : Thread nD τ).loc main_arg1))
    (m ((c : Thread nD τ).loc main_arg2)) (m ((c : Thread nD τ).loc main_arg3)) (m ((c : Thread nD τ).loc main_arg4)) := by
  funext y
  refine (kernel_at m c y).trans ?_
  conv_rhs => rw [eq_ix2 (n0 := 8448) (n1 := 4096) y]
  exact (product_at _ _ _ _ _ _ _).symm

end Sum

end Cert.Kernel3Ideal.Product

end
-- ==== Proof.Pooling.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack

@[expose] public section

/-! # The pooling projection: each entry of the tiled, gated residual is the reference's -/

set_option maxRecDepth 16384

noncomputable section

namespace Cert.Kernel4Ideal.Product

open Cert.Kernel4Ideal Cert.Kernel4Ideal.Gen Cert.Kernel4Ideal.Value
open Idealize.ShloMosaic Idealize.ShloMosaic.TcCoe Idealize.SL.Sem
open Idealize.ShloMosaic.Pipeline (Dat)

section State

variable {F : FTy → Type} [FloatOps F]
variable (m : (ℓ : Loc nD τ sig) → Buf (Elt F) ℓ) (c : Dev nD)

/-- The block a point writes, as one term of the blocks it reads. -/
theorem out_eq (x0 : Vec F S1024x1024 .bf16) (x1 : Vec F S1x1024x1024 .bf16) (x2 : Vec F S1x1024 .f32)
    (x3 : Vec F S1024x1024 .f32) (x4 : Vec F S2x6x1024 .f32) :
    out0_5 x0 x1 x2 x3 x4 = k0_pay1 x0 x1 x3 (View.ld x4 r0_2) x2 := by
  frame_out
  done

/-- The weights the kernel reads: the one layer's array without its first axis, rounded. -/
theorem weights_eq : V m c main_v1 = truncf .bf16
    (shapeCast S4x1024x1024 (m ((c : Thread nD τ).loc main_arg1)) shapeCasts_S1x4x1024x1024_S4x1024x1024 : FVec F S4x1024x1024 .f32)
    bitsLt_bf16_f32 := by
  dsimp only [V]
  after_results
  try rfl

/-- The scales the kernel reads: the one layer's row. -/
theorem scales_eq : V m c main_v3 = shapeCast S1x4096
    (shapeCast S4096 (m ((c : Thread nD τ).loc main_arg2)) shapeCasts_S1x4096_S4096) shapeCasts_S4096_S1x4096 := by
  dsimp only [V]
  after_results
  try rfl

/-- The tiles' places at each point: column group by its quotient, rows by its remainder. -/
theorem places : ∀ t : Fin cfg0.N, win0_0.index t (0 : Fin 2) = t.val % 8 ∧ win0_0.index t (1 : Fin 2) = t.val / 8
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = t.val / 8
    ∧ win0_3.index t (0 : Fin 2) = t.val % 8 ∧ win0_3.index t (1 : Fin 2) = t.val / 8
    ∧ win0_4.index t (0 : Fin 3) = 0 ∧ win0_4.index t (1 : Fin 3) = 0 ∧ win0_4.index t (2 : Fin 3) = t.val / 8
    ∧ win0_5.index t (0 : Fin 2) = t.val % 8 ∧ win0_5.index t (1 : Fin 2) = t.val / 8
    ∧ win0_5.flush t = true :=
  (by decide +kernel : ∀ t : Fin grid0.N, _)

/-- The features' tile, entry by entry. -/
theorem features_at (t : Fin cfg0.N) (p k : Fin 1024) (r : Fin 8192) (s : Fin 4096)
    (hr : r.val = t.val % 8 * 1024 + p.val) (hs : s.val = t.val / 8 * 1024 + k.val) :
    iblk m c 0 t (ix2 p k) = m ((c : Thread nD τ).loc main_arg0) (ix2 r s) := by
  obtain ⟨e0, e1, -⟩ := places t
  show V m c main_arg0 (((cfg0.win 0).blk t).view.emb (ix2 p k)) = _
  rw [V_main_arg0]
  congr 1
  funext a
  apply Fin.ext
  match a with
  | ⟨0, _⟩ => show win0_0.index t (0 : Fin 2) * 1024 + 1 * p.val = r.val; omega
  | ⟨1, _⟩ => show win0_0.index t (1 : Fin 2) * 1024 + 1 * k.val = s.val; omega

/-- The weights' tile, entry by entry. -/
theorem group_at (t : Fin cfg0.N) (k q : Fin 1024) (g : Fin 4) (hg : g.val = t.val / 8) :
    iblk m c 1 t (ix3 (0 : Fin 1) k q) = V m c main_v1 (ix3 g k q) := by
  obtain ⟨-, -, e0, e1, e2, -⟩ := places t
  show V m c main_v1 (((cfg0.win 1).blk t).view.emb (ix3 (0 : Fin 1) k q)) = _
  congr 1
  funext a
  apply Fin.ext
  match a with
  | ⟨0, _⟩ => show win0_1.index t (0 : Fin 3) * 1 + 1 * 0 = g.val; omega
  | ⟨1, _⟩ => show win0_1.index t (1 : Fin 3) * 1024 + 1 * k.val = k.val; omega
  | ⟨2, _⟩ => show win0_1.index t (2 : Fin 3) * 1024 + 1 * q.val = q.val; omega

/-- The scales' tile, entry by entry. -/
theorem scale_at (t : Fin cfg0.N) (q : Fin 1024) (s : Fin 4096) (hs : s.val = t.val / 8 * 1024 + q.val) :
    iblk m c 2 t (ix2 (0 : Fin 1) q) = V m c main_v3 (ix2 (0 : Fin 1) s) := by
  obtain ⟨-, -, -, -, -, e0, e1, -⟩ := places t
  show V m c main_v3 (((cfg0.win 2).blk t).view.emb (ix2 (0 : Fin 1) q)) = _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = s.val; omega

/-- The residual's tile, entry by entry. -/
theorem residual_at (t : Fin cfg0.N) (p q : Fin 1024) (r : Fin 8192) (s : Fin 4096)
    (hr : r.val = t.val % 8 * 1024 + p.val) (hs : s.val = t.val / 8 * 1024 + q.val) :
    iblk m c 3 t (ix2 p q) = m ((c : Thread nD τ).loc main_arg3) (ix2 r s) := by
  obtain ⟨-, -, -, -, -, -, -, e0, e1, -⟩ := places t
  show V m c main_arg3 (((cfg0.win 3).blk t).view.emb (ix2 p q)) = _
  rw [V_main_arg3]
  congr 1
  funext a
  apply Fin.ext
  match a with
  | ⟨0, _⟩ => show win0_3.index t (0 : Fin 2) * 1024 + 1 * p.val = r.val; omega
  | ⟨1, _⟩ => show win0_3.index t (1 : Fin 2) * 1024 + 1 * q.val = s.val; omega

/-- The modulation's tile, entry by entry. -/
theorem gates_at (t : Fin cfg0.N) (u : Fin 2) (v : Fin 6) (q : Fin 1024) (s : Fin 4096)
    (hs : s.val = t.val / 8 * 1024 + q.val) :
    iblk m c 4 t (ix3 u v q) = m ((c : Thread nD τ).loc main_arg4) (ix3 u v s) := by
  obtain ⟨-, -, -, -, -, -, -, -, -, e0, e1, e2, -⟩ := places t
  show V m c main_arg4 (((cfg0.win 4).blk t).view.emb (ix3 u v q)) = _
  rw [V_main_arg4]
  congr 1
  funext a
  apply Fin.ext
  match a with
  | ⟨0, _⟩ => show win0_4.index t (0 : Fin 3) * 2 + 1 * u.val = u.val; omega
  | ⟨1, _⟩ => show win0_4.index t (1 : Fin 3) * 6 + 1 * v.val = v.val; omega
  | ⟨2, _⟩ => show win0_4.index t (2 : Fin 3) * 1024 + 1 * q.val = s.val; omega

/-- The result array, entry by entry: the block of the point that covers the entry. -/
theorem result_at (t : Fin cfg0.N) (p q : Fin 1024) (r : Fin 8192) (s : Fin 4096)
    (hr : r.val = t.val % 8 * 1024 + p.val) (hs : s.val = t.val / 8 * 1024 + q.val) :
    (dats m 0 c).arrAt 5 cfg0.N (ix2 r s) = k0_pay1 (iblk m c 0 t) (iblk m c 1 t) (iblk m c 3 t)
      (View.ld (iblk m c 4 t) r0_2) (iblk m c 2 t) (ix2 p q) := by
  obtain ⟨-, -, -, -, -, -, -, -, -, -, -, -, e0, e1, hf⟩ := places t
  have e : ((cfg0.win 5).blk t).view.emb (ix2 p q) = ix2 r s := by
    funext a
    apply Fin.ext
    match a with
    | ⟨0, _⟩ => show win0_5.index t (0 : Fin 2) * 1024 + 1 * p.val = r.val; omega
    | ⟨1, _⟩ => show win0_5.index t (1 : Fin 2) * 1024 + 1 * q.val = s.val; omega
  have h := congrFun ((blocks5 m c t hf).trans (flushed5 m c t)) (ix2 p q)
  rw [out_eq] at h
  rw [← e]
  exact h

end State

section Sum

variable (m : (ℓ : Loc nD τ sig) → Buf (Elt Ideal) ℓ) (c : Dev nD)

/-- The column's place in a row of features: the group's start and an offset. -/
def col (g : Fin 4) (k : Fin 1024) : Fin 4096 := ⟨g.val * 1024 + k.val, by omega⟩

/-- An entry of the pooling projection: the residual, and the gated, scaled product within the column's group. -/
def entry (d : FVec Ideal S8192x4096 .bf16) (w : FVec Ideal S1x4x1024x1024 .f32) (u : FVec Ideal S1x4096 .f32)
    (h : FVec Ideal S8192x4096 .f32) (v : FVec Ideal S2x6x4096 .f32) (r : Fin 8192) (g : Fin 4) (q : Fin 1024) : EReal :=
  (h (ix2 r (col g q)) : EReal) + Ideal.tanh (v (ix3 0 2 (col g q)))
    * ((∑ k : Fin 1024, (d (ix2 r (col g k)) : EReal) * (w (ix4 0 g k q) : EReal)) * (u (ix2 0 (col g q)) : EReal))

/-- A block of the result, entry by entry, over the extended reals. -/
theorem block_at (x0 : FVec Ideal S1024x1024 .bf16) (x1 : FVec Ideal S1x1024x1024 .bf16) (x2 : FVec Ideal S1x1024 .f32)
    (x3 : FVec Ideal S1024x1024 .f32) (x4 : FVec Ideal S2x6x1024 .f32) (p q : Fin 1024) :
    (k0_pay1 (F := Ideal) x0 x1 x3 (View.ld x4 r0_2) x2 (ix2 p q) : EReal)
      = (x3 (ix2 p q) : EReal) + Ideal.tanh (x4 (ix3 0 2 q))
        * ((∑ k : Fin 1024, (x0 (ix2 p k) : EReal) * (x1 (ix3 0 k q) : EReal)) * (x2 (ix2 0 q) : EReal)) := by
  unfold k0_pay1
  pointwise
  done

/-- An array of one layer without its first axis, entry by entry. -/
theorem layer_at (w : FVec Ideal S1x4x1024x1024 .f32) (g : Fin 4) (k q : Fin 1024) :
    (truncf .bf16 (shapeCast S4x1024x1024 w shapeCasts_S1x4x1024x1024_S4x1024x1024 : FVec Ideal S4x1024x1024 .f32)
      bitsLt_bf16_f32 (ix3 g k q) : EReal) = (w (ix4 0 g k q) : EReal) := by
  pointwise
  done

/-- A row taken apart and put together again, entry by entry. -/
theorem row_at (u : FVec Ideal S1x4096 .f32) (s : Fin 4096) :
    shapeCast S1x4096 (shapeCast S4096 u shapeCasts_S1x4096_S4096 : FVec Ideal S4096 .f32) shapeCasts_S4096_S1x4096
      (ix2 (0 : Fin 1) s) = u (ix2 0 s) := by
  pointwise
  done

/-- The layer's weights as the kernel reads them, entry by entry. -/
theorem weights_at (g : Fin 4) (k q : Fin 1024) :
    (V m c main_v1 (ix3 g k q) : EReal) = m ((c : Thread nD τ).loc main_arg1) (ix4 0 g k q) := by
  rw [weights_eq]
  exact layer_at _ g k q

/-- The layer's scales as the kernel reads them, entry by entry. -/
theorem scales_at (s : Fin 4096) :
    V m c main_v3 (ix2 (0 : Fin 1) s) = m ((c : Thread nD τ).loc main_arg2) (ix2 0 s) := by
  rw [scales_eq]
  exact row_at _ s

/-- What the kernel leaves in the result array. -/
theorem kernel_at (r : Fin 8192) (g : Fin 4) (q : Fin 1024) : ((dats m 0 c).arrAt 5 cfg0.N (ix2 r (col g q)) : EReal)
    = entry (m ((c : Thread nD τ).loc main_arg0)) (m ((c : Thread nD τ).loc main_arg1)) (m ((c : Thread nD τ).loc main_arg2))
      (m ((c : Thread nD τ).loc main_arg3)) (m ((c : Thread nD τ).loc main_arg4)) r g q := by
  have hN : cfg0.N = 32 := N_0
  have hp : g.val * 8 + r.val / 1024 < cfg0.N := by omega
  have hg : g.val = (g.val * 8 + r.val / 1024) / 8 := by omega
  have hr : r.val = (g.val * 8 + r.val / 1024) % 8 * 1024 + r.val % 1024 := by omega
  have hs : ∀ k : Fin 1024, (col g k).val = (g.val * 8 + r.val / 1024) / 8 * 1024 + k.val := fun k => by
    rw [← hg]; rfl
  refine (result_at m c ⟨_, hp⟩ ⟨r.val % 1024, Nat.mod_lt _ (by decide)⟩ q r (col g q) hr (hs q)).trans
    ((block_at _ _ _ _ _ _ _).trans ?_)
  refine congrArg₂ (fun a b : EReal => a + b) (residual_at m c ⟨_, hp⟩ _ q r (col g q) hr (hs q))
    (congrArg₂ (fun a b : EReal => a * b) (congrArg Ideal.tanh (gates_at m c ⟨_, hp⟩ 0 2 q (col g q) (hs q)))
      (congrArg₂ (fun a b : EReal => a * b) (Finset.sum_congr rfl fun k _ => ?_)
        ((scale_at m c ⟨_, hp⟩ q (col g q) (hs q)).trans (scales_at m c _))))
  exact congrArg₂ (fun a b : EReal => a * b) (features_at m c ⟨_, hp⟩ _ k r (col g k) hr (hs k))
    ((group_at m c ⟨_, hp⟩ k q g hg).trans (weights_at m c g k q))

/-- What the reference computes of its arguments. -/
def product (d : FVec Ideal S8192x4096 .bf16) (w : FVec Ideal S1x4x1024x1024 .f32) (u : FVec Ideal S1x4096 .f32)
    (h : FVec Ideal S8192x4096 .f32) (v : FVec Ideal S2x6x4096 .f32) : FVec Ideal S8192x4096 .f32 :=
  addf h (mulf
    (broadcastInDim Cert.Reference4Ideal.S8192x4096 ![0, 1] Cert.Reference4Ideal.Facts₀.bcast_S1x4096_S8192x4096_0_1
      (broadcastInDim Cert.Reference4Ideal.S1x4096 ![1] Cert.Reference4Ideal.Facts₀.bcast_S4096_S1x4096_1
        (Host.tanh (shapeCast Cert.Reference4Ideal.S4096 (extractStridedSlice Cert.Reference4Ideal.S1x1x4096 ![0, 2, 0] v
          Cert.Reference4Ideal.Facts₀.slices_S2x6x4096_S1x1x4096_0_2_0 : FVec Ideal Cert.Reference4Ideal.S1x1x4096 .f32)
          Cert.Reference4Ideal.Facts₀.shapeCasts_S1x1x4096_S4096 : FVec Ideal Cert.Reference4Ideal.S4096 .f32)
          : FVec Ideal Cert.Reference4Ideal.S4096 .f32)))
    (mulf
      (shapeCast Cert.Reference4Ideal.S8192x4096 (transpose Cert.Reference4Ideal.S8192x4x1024 [2, 0, 1]
        (Host.dotGeneral Cert.Reference4Ideal.dot_S4x1024x1024_S8192x4x1024_S4x1024x8192_1_2_2_0_0_1 none
          (shapeCast Cert.Reference4Ideal.S4x1024x1024 w Cert.Reference4Ideal.Facts₀.shapeCasts_S1x4x1024x1024_S4x1024x1024
            : FVec Ideal Cert.Reference4Ideal.S4x1024x1024 .f32)
          (shapeCast Cert.Reference4Ideal.S8192x4x1024 (extf .f32 d Cert.Reference4Ideal.Facts₀.bitsLt_bf16_f32)
            Cert.Reference4Ideal.Facts₀.shapeCasts_S8192x4096_S8192x4x1024 : FVec Ideal Cert.Reference4Ideal.S8192x4x1024 .f32)
          : FVec Ideal Cert.Reference4Ideal.S4x1024x8192 .f32)
        Cert.Reference4Ideal.Facts₀.transposes_S4x1024x8192_S8192x4x1024_2_0_1 : FVec Ideal Cert.Reference4Ideal.S8192x4x1024 .f32)
        Cert.Reference4Ideal.Facts₀.shapeCasts_S8192x4x1024_S8192x4096)
      (broadcastInDim Cert.Reference4Ideal.S8192x4096 ![0, 1] Cert.Reference4Ideal.Facts₀.bcast_S1x4096_S8192x4096_0_1
        (broadcastInDim Cert.Reference4Ideal.S1x4096 ![1] Cert.Reference4Ideal.Facts₀.bcast_S4096_S1x4096_1
          (shapeCast Cert.Reference4Ideal.S4096 u Cert.Reference4Ideal.Facts₀.shapeCasts_S1x4096_S4096
            : FVec Ideal Cert.Reference4Ideal.S4096 .f32)))))

/-- Equal arguments, equal results. -/
theorem product_congr {d d' : FVec Ideal S8192x4096 .bf16} {w w' : FVec Ideal S1x4x1024x1024 .f32} {u u' : FVec Ideal S1x4096 .f32}
    {h h' : FVec Ideal S8192x4096 .f32} {v v' : FVec Ideal S2x6x4096 .f32}
    (e : d' = d ∧ w' = w ∧ u' = u ∧ h' = h ∧ v' = v) :
    product d' w' u' h' v' = product d w u h v := by
  obtain ⟨rfl, rfl, rfl, rfl, rfl⟩ := e
  rfl

/-- The reference's result, entry by entry. -/
theorem product_at (d : FVec Ideal S8192x4096 .bf16) (w : FVec Ideal S1x4x1024x1024 .f32) (u : FVec Ideal S1x4096 .f32)
    (h : FVec Ideal S8192x4096 .f32) (v : FVec Ideal S2x6x4096 .f32) (r : Fin 8192) (g : Fin 4) (q : Fin 1024) :
    (product d w u h v (ix2 r (col g q)) : EReal) = entry d w u h v r g q := by
  have eg : (col g q).val / 1024 = g.val := by show (g.val * 1024 + q.val) / 1024 = _; omega
  have eq : (col g q).val % 1024 = q.val := by show (g.val * 1024 + q.val) % 1024 = _; omega
  unfold product entry
  pointwise
  refine congrArg₂ (fun a b : EReal => a + b) rfl (congrArg₂ (fun a b : EReal => a * b) rfl
    (congrArg₂ (fun a b : EReal => a * b) (Finset.sum_congr rfl fun k _ => (mul_comm _ _).trans ?_) rfl))
  exact congrArg₂ (fun a b : EReal => a * b)
    (congrArg (fun s => d (ix2 r s)) (Fin.ext (congrArg (fun b => b * 1024 + k.val) eg)))
    (congrArg₂ (fun a b => w (ix4 0 a k b)) (Fin.ext eg) (Fin.ext eq))

/-- The two programs' results agree wherever their arguments do. -/
theorem result_eq : (dats m 0 c).arrAt 5 cfg0.N = product (m ((c : Thread nD τ).loc main_arg0))
    (m ((c : Thread nD τ).loc main_arg1)) (m ((c : Thread nD τ).loc main_arg2)) (m ((c : Thread nD τ).loc main_arg3))
    (m ((c : Thread nD τ).loc main_arg4)) := by
  funext y
  have h1 : (y (1 : Fin 2)).val < 4096 := (y (1 : Fin 2)).isLt
  have e : y = ix2 (n0 := 8192) (n1 := 4096) (y (0 : Fin 2))
      (col ⟨(y (1 : Fin 2)).val / 1024, by omega⟩ ⟨(y (1 : Fin 2)).val % 1024, by omega⟩) := by
    refine (eq_ix2 (n0 := 8192) (n1 := 4096) y).trans (congrArg (ix2 _) (Fin.ext ?_))
    show (y (1 : Fin 2)).val = (y (1 : Fin 2)).val / 1024 * 1024 + (y (1 : Fin 2)).val % 1024
    omega
  rw [e]
  exact (kernel_at m c _ _ _).trans (product_at _ _ _ _ _ _ _ _).symm

end Sum

end Cert.Kernel4Ideal.Product

end
-- ==== Proof.AttentionTrip.lean ====
module

public import proofs.«01_k».proof.Proof.Gen.Kernel5Ideal.Loops
public import Idealize.ShloMosaic.Lib.Pointwise
public import Idealize.ShloMosaic.Lib.WholeRead
public import Idealize.ShloMosaic.Lib.VecWindow

@[expose] public section

/-! # One trip of the attention's loop -/

set_option maxRecDepth 16384

noncomputable section

namespace Cert.Kernel5Ideal.Trip

open Idealize.ShloMosaic Idealize.ShloMosaic.TcCoe
open Cert.Kernel5Ideal.Gen

variable {F : FTy → Type} [FloatOps F]

/-- Key `p` of chunk `n` of the keys after the first 256. -/
def key (n : Fin 8) (p : Fin 1024) : Fin 8448 := ⟨256 + 1024 * n.val + p.val, by omega⟩

/-- The keys of chunk `n`; strip `s` of the values. -/
def keys (x : Vec F S8448x128 .bf16) (n : Fin 8) : Vec F S1024x128 .bf16 := fun j => x (ix2 (key n (j (0 : Fin 2))) (j (1 : Fin 2)))
def strip (x : Vec F S1x33x128x256 .bf16) (s : Fin 33) : Vec F S1x1x128x256 .bf16 := fun j => x (ix4 (0 : Fin 1) s (j (2 : Fin 4)) (j (3 : Fin 4)))

/-- The scores of chunk `n`: every key's product with every column of the query. -/
def scores (q : FVec F S128x1024 .bf16) (x : Vec F S8448x128 .bf16) (n : Fin 8) : FVec F S1024x1024 .f32 := k0_pay1 q (keys x n)

/-- What the loop keeps: each column's largest score, its sum of weights, its weighted sum of values, and two chunks' scores. -/
structure State (F : FTy → Type) where
  top : Vec F S1x1024 .f32
  total : Vec F S1x1024 .f32
  sum : Vec F S128x1024 .f32
  even : Vec F S1024x1024 .f32
  odd : Vec F S1024x1024 .f32

/-- One chunk's scores taken into the first three; `w` the four strips of its values. -/
def topOf (s : Vec F S1024x1024 .f32) (m : Vec F S1x1024 .f32) : Vec F S1x1024 .f32 := k0_pay7 (k0_pay2 s m)
def totalOf (s : Vec F S1024x1024 .f32) (m l : Vec F S1x1024 .f32) : Vec F S1x1024 .f32 := k0_pay5 s m l
def sumOf (s : Vec F S1024x1024 .f32) (m : Vec F S1x1024 .f32) (a : Vec F S128x1024 .f32) (w : Fin 4 → Vec F S1x1x128x256 .bf16) :
    Vec F S128x1024 .f32 := k0_pay6 (k0_pay3 s m) (k0_pay4 s m) (w 0) (w 1) (w 2) (w 3) a

/-- The four strips of chunk `n`'s values. -/
def strips (x : Vec F S1x33x128x256 .bf16) (n : Fin 8) (u : Fin 4) : Vec F S1x1x128x256 .bf16 := strip x ⟨4 * n.val + u.val + 1, by omega⟩

/-- The three chunks a trip names. -/
def first (k : Fin 4) : Fin 8 := ⟨2 * k.val, by omega⟩
def second (k : Fin 4) : Fin 8 := ⟨2 * k.val + 1, by omega⟩
def next (k : Fin 4) : Fin 8 := ⟨min (2 * k.val + 2) 7, by omega⟩

/-- Trip `k`: the even chunk's scores are taken in, then the odd chunk's, made in between. -/
def trip (q : FVec F S128x1024 .bf16) (x1 : Vec F S8448x128 .bf16) (x2 : Vec F S1x33x128x256 .bf16) (k : Fin 4) (S : State F) : State F where
  top := topOf (scores q x1 (second k)) (topOf S.even S.top)
  total := totalOf (scores q x1 (second k)) (topOf S.even S.top) (totalOf S.even S.top S.total)
  sum := sumOf (scores q x1 (second k)) (topOf S.even S.top) (sumOf S.even S.top S.sum (strips x2 (first k))) (strips x2 (second k))
  even := scores q x1 (next k)
  odd := scores q x1 (second k)

section
variable (𝒱 : Variants) (c : Dev nD) (bd : Option 𝒱.V) (i : grid0.Coords)
  (arg2 : Memref sig .tc .vmem S1x1x128x1024 .bf16) (harg2 : arg2.IsWhole)
  (arg3 : Memref sig .tc .vmem S8448x128 .bf16) (harg3 : arg3.IsWhole)
  (arg4 : Memref sig .tc .vmem S1x33x128x256 .bf16) (harg4 : arg4.IsWhole)
  (arg5 : Memref sig .tc .vmem S256x512 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S128x1024 .f32) (harg8 : arg8.IsWhole)
  (arg9 : Memref sig .tc .vmem S1024x1024 .f32) (harg9 : arg9.IsWhole)
  (arg10 : Memref sig .tc .vmem S1024x1024 .f32) (harg10 : arg10.IsWhole)
  (arg1 : BitVec 32) (v1 : FVec F S128x1024 .bf16) (v29 : Vec F S1024x128 .bf16)

abbrev tripNo (k : Fin (k0_t1_loop i).trips) : Fin 4 := ⟨k.val, lt_of_lt_of_le k.isLt (k0_t1_abs i).2.1⟩

theorem keys_read (k : Fin (k0_t1_loop i).trips) (r : Fin 2) (n : Fin 8) (hn : n.val = min (2 * k.val + r.val + 1) 7)
    (x1 : Vec F S8448x128 .bf16) :
    View.readAt (Elt F) arg3.view (Rect.unit (s := S8448x128) (k0_off2 i k (BitVec.ofNat 32 (1 + r.val))) S1024x128.size (k0_off2_inb i k r)).toLoadRect
      (harg3.unread x1) = keys x1 n := by
  refine funext fun (x : S1024x128.Idx) => ?_
  refine (congrFun (harg3.read_unread x1) ((Rect.unit (s := S8448x128) (k0_off2 i k (BitVec.ofNat 32 (1 + r.val))) S1024x128.size (k0_off2_inb i k r)).emb x)).trans (congrArg x1 ?_)
  funext a
  apply Fin.ext
  show k0_off2 i k (BitVec.ofNat 32 (1 + r.val)) a + 1 * (x a).val = _
  rw [congrFun (k0_off2_eq i k r) a]
  match a with
  | ⟨0, _⟩ => show 1024 * (min (2 * k.val + r.val + 1) 7) + 256 + 1 * (x (0 : Fin 2)).val = 256 + 1024 * n.val + (x (0 : Fin 2)).val; omega
  | ⟨1, _⟩ => show 0 + 1 * (x (1 : Fin 2)).val = (x (1 : Fin 2)).val; omega

theorem strip_read3 (k : Fin (k0_t1_loop i).trips) (r : Fin 4) (x2 : Vec F S1x33x128x256 .bf16) :
    View.readAt (Elt F) arg4.view (Rect.unit (s := S1x33x128x256) (k0_off3 i k (BitVec.ofNat 32 r.val)) S1x1x128x256.size (k0_off3_inb i k r)).toLoadRect
      (harg4.unread x2) = strips x2 (first (tripNo i k)) r := by
  refine funext fun (x : S1x1x128x256.Idx) => ?_
  refine (congrFun (harg4.read_unread x2) ((Rect.unit (s := S1x33x128x256) (k0_off3 i k (BitVec.ofNat 32 r.val)) S1x1x128x256.size (k0_off3_inb i k r)).emb x)).trans (congrArg x2 ?_)
  funext a
  apply Fin.ext
  show k0_off3 i k (BitVec.ofNat 32 r.val) a + 1 * (x a).val = _
  rw [congrFun (k0_off3_eq i k r) a]
  match a with
  | ⟨0, _⟩ => show 0 + 1 * (x (0 : Fin 4)).val = 0; have : (x (0 : Fin 4)).val < 1 := (x (0 : Fin 4)).isLt; omega
  | ⟨1, _⟩ => show 8 * k.val + r.val + 1 + 1 * (x (1 : Fin 4)).val = 4 * (2 * k.val) + r.val + 1; have : (x (1 : Fin 4)).val < 1 := (x (1 : Fin 4)).isLt; omega
  | ⟨2, _⟩ => show 0 + 1 * (x (2 : Fin 4)).val = (x (2 : Fin 4)).val; omega
  | ⟨3, _⟩ => show 0 + 1 * (x (3 : Fin 4)).val = (x (3 : Fin 4)).val; omega

theorem strip_read4 (k : Fin (k0_t1_loop i).trips) (r : Fin 4) (x2 : Vec F S1x33x128x256 .bf16) :
    View.readAt (Elt F) arg4.view (Rect.unit (s := S1x33x128x256) (k0_off4 i k (BitVec.ofNat 32 r.val)) S1x1x128x256.size (k0_off4_inb i k r)).toLoadRect
      (harg4.unread x2) = strips x2 (second (tripNo i k)) r := by
  refine funext fun (x : S1x1x128x256.Idx) => ?_
  refine (congrFun (harg4.read_unread x2) ((Rect.unit (s := S1x33x128x256) (k0_off4 i k (BitVec.ofNat 32 r.val)) S1x1x128x256.size (k0_off4_inb i k r)).emb x)).trans (congrArg x2 ?_)
  funext a
  apply Fin.ext
  show k0_off4 i k (BitVec.ofNat 32 r.val) a + 1 * (x a).val = _
  rw [congrFun (k0_off4_eq i k r) a]
  match a with
  | ⟨0, _⟩ => show 0 + 1 * (x (0 : Fin 4)).val = 0; have : (x (0 : Fin 4)).val < 1 := (x (0 : Fin 4)).isLt; omega
  | ⟨1, _⟩ => show 8 * k.val + r.val + 5 + 1 * (x (1 : Fin 4)).val = 4 * (2 * k.val + 1) + r.val + 1; have : (x (1 : Fin 4)).val < 1 := (x (1 : Fin 4)).isLt; omega
  | ⟨2, _⟩ => show 0 + 1 * (x (2 : Fin 4)).val = (x (2 : Fin 4)).val; omega
  | ⟨3, _⟩ => show 0 + 1 * (x (3 : Fin 4)).val = (x (3 : Fin 4)).val; omega

/-- The pieces a trip leaves, read back: the trip's step of the state. -/
theorem trip_reads (x1 : Vec F S8448x128 .bf16) (x2 : Vec F S1x33x128x256 .bf16) (k : Fin (k0_t1_loop i).trips) (S : State F)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (h6 : arg6.view.read (Elt F) f6 = S.top) (h7 : arg7.view.read (Elt F) f7 = S.total) (h8 : arg8.view.read (Elt F) f8 = S.sum)
    (h9 : arg9.view.read (Elt F) f9 = S.even)
    (L : List (View.Piece (Elt F) S1x1024 .f32) × List (View.Piece (Elt F) S1x1024 .f32) × List (View.Piece (Elt F) S128x1024 .f32)
      × List (View.Piece (Elt F) S1024x1024 .f32) × List (View.Piece (Elt F) S1024x1024 .f32))
    (hL : L = tripL_k0_t1 (F := F) 𝒱 c bd i arg2 harg2 arg3 harg3 arg4 harg4 arg5 harg5 arg6 harg6 arg7 harg7 arg8 harg8 arg9 harg9 arg10 harg10
      arg1 v1 v29 (harg3.unread x1) (harg4.unread x2) k f6 f7 f8 f9 f10) :
    arg6.view.read (Elt F) (arg6.view.writes (Elt F) f6 L.1) = (trip v1 x1 x2 (tripNo i k) S).top
    ∧ arg7.view.read (Elt F) (arg7.view.writes (Elt F) f7 L.2.1) = (trip v1 x1 x2 (tripNo i k) S).total
    ∧ arg8.view.read (Elt F) (arg8.view.writes (Elt F) f8 L.2.2.1) = (trip v1 x1 x2 (tripNo i k) S).sum
    ∧ arg9.view.read (Elt F) (arg9.view.writes (Elt F) f9 L.2.2.2.1) = (trip v1 x1 x2 (tripNo i k) S).even := by
  have e1 := keys_read i arg3 harg3 k 0 (second (tripNo i k)) (by show 2 * k.val + 1 = min (2 * k.val + 0 + 1) 7; have : k.val < 4 := (tripNo i k).isLt; omega) x1
  have e2 := keys_read i arg3 harg3 k 1 (next (tripNo i k)) (by show min (2 * k.val + 2) 7 = min (2 * k.val + 1 + 1) 7; omega) x1
  have e3 := fun r => strip_read3 i arg4 harg4 k r x2
  have e4 := fun r => strip_read4 i arg4 harg4 k r x2
  have r6 := fun inb => (View.readAt_full (Val := Elt F) arg6.view f6 (off := ![0, 0]) inb).trans h6
  have r7 := fun inb => (View.readAt_full (Val := Elt F) arg7.view f7 (off := ![0, 0]) inb).trans h7
  have r8 := fun inb => (View.readAt_full (Val := Elt F) arg8.view f8 (off := ![0, 0]) inb).trans h8
  have r9 := fun inb => (View.readAt_full (Val := Elt F) arg9.view f9 (off := ![0, 0]) inb).trans h9
  have m1 := congr (congrArg topOf (r9 inb_S1024x1024_S1024x1024_0_0)) (r6 inb_S1x1024_S1x1024_0_0)
  have l1 := congr (congr (congrArg totalOf (r9 inb_S1024x1024_S1024x1024_0_0)) (r6 inb_S1x1024_S1x1024_0_0)) (r7 inb_S1x1024_S1x1024_0_0)
  have a1 := congr (congr (congr (congrArg sumOf (r9 inb_S1024x1024_S1024x1024_0_0)) (r6 inb_S1x1024_S1x1024_0_0)) (r8 inb_S128x1024_S128x1024_0_0)) (funext e3)
  have s2 := fun w (e : w = _) => (View.readCov_full (Val := Elt F) arg10.view inb_S1024x1024_S1024x1024_0_0 inb_S1024x1024_S1024x1024_0_0 w []).trans (e.trans (congrArg (k0_pay1 v1) e1))
  have m1' := fun w (e : w = _) => (View.readCov_full (Val := Elt F) arg6.view inb_S1x1024_S1x1024_0_0 inb_S1x1024_S1x1024_0_0 w []).trans (e.trans m1)
  have l1' := fun w (e : w = _) => (View.readCov_full (Val := Elt F) arg7.view inb_S1x1024_S1x1024_0_0 inb_S1x1024_S1x1024_0_0 w []).trans (e.trans l1)
  have a1' := fun w (e : w = _) => (View.readCov_full (Val := Elt F) arg8.view inb_S128x1024_S128x1024_0_0 inb_S128x1024_S128x1024_0_0 w []).trans (e.trans a1)
  unfold tripL_k0_t1 trip_k0_t1 at hL
  dsimp only at hL
  subst hL
  dsimp only
  refine ⟨(View.read_writes_full arg6.view f6 _ _ _).trans ?_, (View.read_writes_full arg7.view f7 _ _ _).trans ?_,
    (View.read_writes_full arg8.view f8 _ _ _).trans ?_, (View.read_writes_full arg9.view f9 _ _ _).trans ?_⟩
  · exact congr (congrArg topOf (s2 _ rfl)) (m1' _ rfl)
  · exact congr (congr (congrArg totalOf (s2 _ rfl)) (m1' _ rfl)) (l1' _ rfl)
  · exact congr (congr (congr (congrArg sumOf (s2 _ rfl)) (m1' _ rfl)) (a1' _ rfl)) (funext e4)
  · exact congrArg (k0_pay1 v1) e2

/-- The state after `n` trips. -/
def loop (q : FVec F S128x1024 .bf16) (x1 : Vec F S8448x128 .bf16) (x2 : Vec F S1x33x128x256 .bf16) (S : State F) : ℕ → State F
  | 0 => S
  | n + 1 => if h : n < 4 then trip q x1 x2 ⟨n, h⟩ (loop q x1 x2 S n) else loop q x1 x2 S n

/-- The pieces of the first `n` trips, read back: the state after them. -/
theorem loop_reads (x1 : Vec F S8448x128 .bf16) (x2 : Vec F S1x33x128x256 .bf16) (S : State F)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty)
    (h6 : arg6.view.read (Elt F) f6 = S.top) (h7 : arg7.view.read (Elt F) f7 = S.total) (h8 : arg8.view.read (Elt F) f8 = S.sum)
    (h9 : arg9.view.read (Elt F) f9 = S.even) (n : ℕ) (hn : n ≤ (k0_t1_loop i).trips)
    (L : List (View.Piece (Elt F) S1x1024 .f32) × List (View.Piece (Elt F) S1x1024 .f32) × List (View.Piece (Elt F) S128x1024 .f32)
      × List (View.Piece (Elt F) S1024x1024 .f32) × List (View.Piece (Elt F) S1024x1024 .f32))
    (hL : L = pb_k0_t1 (F := F) 𝒱 c bd i arg2 harg2 arg3 harg3 arg4 harg4 arg5 harg5 arg6 harg6 arg7 harg7 arg8 harg8 arg9 harg9 arg10 harg10
      arg1 v1 v29 (harg3.unread x1) (harg4.unread x2) f6 f7 f8 f9 f10 n) :
    arg6.view.read (Elt F) (arg6.view.writes (Elt F) f6 L.1) = (loop v1 x1 x2 S n).top
    ∧ arg7.view.read (Elt F) (arg7.view.writes (Elt F) f7 L.2.1) = (loop v1 x1 x2 S n).total
    ∧ arg8.view.read (Elt F) (arg8.view.writes (Elt F) f8 L.2.2.1) = (loop v1 x1 x2 S n).sum
    ∧ arg9.view.read (Elt F) (arg9.view.writes (Elt F) f9 L.2.2.2.1) = (loop v1 x1 x2 S n).even := by
  induction n generalizing L with
  | zero => subst hL; exact ⟨h6, h7, h8, h9⟩
  | succ n ih =>
    have h : n < (k0_t1_loop i).trips := hn
    have h4 : n < 4 := lt_of_lt_of_le h (k0_t1_abs i).2.1
    have e := pb_k0_t1_succ (F := F) 𝒱 c bd i arg2 harg2 arg3 harg3 arg4 harg4 arg5 harg5 arg6 harg6 arg7 harg7 arg8 harg8 arg9 harg9 arg10 harg10
      arg1 v1 v29 (harg3.unread x1) (harg4.unread x2) f6 f7 f8 f9 f10 ⟨n, h⟩
    dsimp only at e
    have g := ih (Nat.le_of_succ_le hn) _ rfl
    have st := trip_reads 𝒱 c bd i arg2 harg2 arg3 harg3 arg4 harg4 arg5 harg5 arg6 harg6 arg7 harg7 arg8 harg8 arg9 harg9 arg10 harg10
      arg1 v1 v29 x1 x2 ⟨n, h⟩ (loop v1 x1 x2 S n) _ _ _ _ (arg10.view.writes (Elt F) f10 (pb_k0_t1 (F := F) 𝒱 c bd i arg2 harg2 arg3 harg3 arg4 harg4
        arg5 harg5 arg6 harg6 arg7 harg7 arg8 harg8 arg9 harg9 arg10 harg10 arg1 v1 v29 (harg3.unread x1) (harg4.unread x2) f6 f7 f8 f9 f10 n).2.2.2.2)
      g.1 g.2.1 g.2.2.1 g.2.2.2 _ rfl
    rw [← View.writes_append, ← View.writes_append, ← View.writes_append, ← View.writes_append] at st
    have hl : loop v1 x1 x2 S (n + 1) = trip v1 x1 x2 (tripNo i ⟨n, h⟩) (loop v1 x1 x2 S n) := dif_pos h4
    rw [e] at hL
    subst hL
    rw [hl]
    exact st

end
end Cert.Kernel5Ideal.Trip
end
-- ==== Proof.AttentionSum.lean ====
module

public import Idealize.ShloMosaic.Lib.Pointwise

@[expose] public section

/-! # Weighted means taken piece by piece

Weights are powers of two of scores less the largest score. Adding more scores rescales what is summed so far
by the weight of the old largest score against the new one, also where scores are infinite. -/

noncomputable section

namespace Cert.Soft

open Idealize.ShloMosaic

/-- The weight of score `s` against `t`. -/
def wt (s t : EReal) : EReal := Ideal.exp2 (s - t)

theorem exp2_nonneg (x : EReal) : 0 ≤ Ideal.exp2 x := by
  induction x using EReal.rec with
  | bot => exact le_rfl
  | top => exact le_top
  | coe r => exact EReal.coe_nonneg.mpr (Real.rpow_nonneg (by norm_num) r)

theorem wt_nonneg (s t : EReal) : 0 ≤ wt s t := exp2_nonneg _

theorem wt_ne_top {s t : EReal} (h : s ≤ t) : wt s t ≠ ⊤ := by
  unfold wt
  induction t using EReal.rec with
  | bot =>
    obtain rfl : s = ⊥ := le_bot_iff.mp h
    exact EReal.zero_ne_top
  | top =>
    rw [show s - ⊤ = ⊥ from EReal.sub_top s]
    exact EReal.zero_ne_top
  | coe b =>
    induction s using EReal.rec with
    | bot => rw [show (⊥ : EReal) - (b : EReal) = ⊥ from EReal.bot_sub _]; exact EReal.zero_ne_top
    | top => exact absurd h (by simp)
    | coe a => rw [← EReal.coe_sub]; exact EReal.coe_ne_top _

/-- Weights compose along growing largest scores. -/
theorem wt_mul {a b c : EReal} (h1 : a ≤ b) (h2 : b ≤ c) : wt a b * wt b c = wt a c := by
  unfold wt
  induction c using EReal.rec with
  | bot =>
    obtain rfl : b = ⊥ := le_bot_iff.mp h2
    obtain rfl : a = ⊥ := le_bot_iff.mp h1
    show Ideal.exp2 ((⊥ : EReal) - ⊥) * Ideal.exp2 ((⊥ : EReal) - ⊥) = Ideal.exp2 ((⊥ : EReal) - ⊥)
    rw [show (⊥ : EReal) - ⊥ = ⊥ from EReal.bot_sub _]
    exact mul_zero _
  | top =>
    rw [EReal.sub_top, EReal.sub_top]
    exact mul_zero _
  | coe c =>
    induction b using EReal.rec with
    | bot =>
      obtain rfl : a = ⊥ := le_bot_iff.mp h1
      rw [EReal.bot_sub, EReal.bot_sub]
      exact mul_zero _
    | top => exact absurd h2 (by simp)
    | coe b =>
      induction a using EReal.rec with
      | bot =>
        rw [EReal.bot_sub, EReal.bot_sub]
        exact zero_mul _
      | top => exact absurd h1 (by simp)
      | coe a =>
        rw [← EReal.coe_sub, ← EReal.coe_sub, ← EReal.coe_sub]
        show ((Real.rpow 2 (a - b) : ℝ) : EReal) * ((Real.rpow 2 (b - c) : ℝ) : EReal) = ((Real.rpow 2 (a - c) : ℝ) : EReal)
        rw [← EReal.coe_mul]
        refine congrArg _ ?_
        refine (Real.rpow_add (by norm_num : (0 : ℝ) < 2) _ _).symm.trans ?_
        show (2 : ℝ) ^ (a - b + (b - c)) = (2 : ℝ) ^ (a - c)
        rw [sub_add_sub_cancel]

/-- The largest of the first `n` scores, and the sum of the values weighted against it. -/
def top (f : ℕ → EReal) (n : ℕ) : EReal := (Finset.range n).sup f
def num (f v : ℕ → EReal) (n : ℕ) : EReal := ∑ i ∈ Finset.range n, v i * wt (f i) (top f n)

theorem le_top_of {f : ℕ → EReal} {i n : ℕ} (h : i < n) : f i ≤ top f n := Finset.le_sup (f := f) (Finset.mem_range.mpr h)

theorem top_add (f : ℕ → EReal) (n b : ℕ) : top f (n + b) = max (top f n) (Finset.univ.sup fun p : Fin b => f (n + p.val)) := by
  refine le_antisymm (Finset.sup_le fun i hi => ?_) (max_le (Finset.sup_le fun i hi => le_top_of (lt_of_lt_of_le (Finset.mem_range.mp hi) (Nat.le_add_right n b)))
    (Finset.sup_le fun p _ => le_top_of (Nat.add_lt_add_left p.isLt n)))
  by_cases h : i < n
  · exact le_max_of_le_left (le_top_of h)
  · have hb : i - n < b := by have := Finset.mem_range.mp hi; omega
    refine le_max_of_le_right ?_
    have e : f i = (fun p : Fin b => f (n + p.val)) ⟨i - n, hb⟩ := congrArg f (by show i = n + (i - n); omega)
    rw [e]
    exact Finset.le_sup (f := fun p : Fin b => f (n + p.val)) (Finset.mem_univ _)

theorem mul_sum {c : EReal} (h0 : 0 ≤ c) (h1 : c ≠ ⊤) (f : ℕ → EReal) (s : Finset ℕ) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- The weighted sum with `b` more scores. -/
theorem num_add (f v : ℕ → EReal) (n b : ℕ) : num f v (n + b)
    = wt (top f n) (top f (n + b)) * num f v n + ∑ p : Fin b, v (n + p.val) * wt (f (n + p.val)) (top f (n + b)) := by
  have hm : top f n ≤ top f (n + b) := by rw [top_add]; exact le_max_left _ _
  unfold num
  rw [Finset.sum_range_add, mul_sum (wt_nonneg _ _) (wt_ne_top hm), Finset.sum_range (fun x => v (n + x) * wt (f (n + x)) (top f (n + b)))]
  refine congrArg₂ (fun a b : EReal => a + b) (Finset.sum_congr rfl fun i hi => ?_) rfl
  rw [← wt_mul (le_top_of (Finset.mem_range.mp hi)) hm, ← mul_assoc, mul_comm]

theorem top_fin (f : ℕ → EReal) (n : ℕ) : top f n = Finset.univ.sup fun p : Fin n => f p.val := by
  have h := top_add f 0 n
  rw [Nat.zero_add] at h
  rw [h]
  simp [top]

theorem num_fin (f v : ℕ → EReal) (n : ℕ) : num f v n = ∑ p : Fin n, v p.val * wt (f p.val) (top f n) := Finset.sum_range _

/-- The constant two, and its powers. -/
theorem pow_two (x : EReal) : Ideal.pow (Ideal.ofBits .f32 0x40000000#32) x = Ideal.exp2 x := by
  have h : Ideal.ofBits .f32 0x40000000#32 = ((2 : ℝ) : EReal) := by
    simp [Ideal.ofBits, Ideal.ieee]
    norm_num
    rw [← EReal.coe_mul]
    norm_num
  rw [h]
  induction x using EReal.rec with
  | bot => show (if (2 : ℝ) < 0 then (⊥ : EReal) else if (1 : ℝ) < 2 then 0 else _) = 0; rw [if_neg (by norm_num), if_pos (by norm_num)]
  | top => show (if (2 : ℝ) < 0 then (⊥ : EReal) else if (1 : ℝ) < 2 then ⊤ else _) = ⊤; rw [if_neg (by norm_num), if_pos (by norm_num)]
  | coe r => rfl

theorem fold_max {n : ℕ} (g : Fin n → EReal) : (Finset.univ : Finset (Fin n)).fold max (⊥ : EReal) g = Finset.univ.sup g := rfl

theorem neg_infinity : Ideal.ofBits .f32 0xFF800000#32 = ⊥ := by
  simp [Ideal.ofBits, Ideal.ieee]

end Cert.Soft

end
-- ==== Proof.AttentionEntries.lean ====
module

public import proofs.«01_k».proof.Proof.AttentionTrip
public import proofs.«01_k».proof.Proof.AttentionSum

@[expose] public section

/-! # The attention's steps, entry by entry, over the extended reals -/

set_option maxRecDepth 16384

noncomputable section

namespace Cert.Kernel5Ideal.Trip

open Idealize.ShloMosaic Idealize.ShloMosaic.TcCoe
open Cert.Kernel5Ideal.Gen Cert.Soft

theorem query_at (x0 : Vec Ideal S1x1x128x1024 .bf16) (k : Fin 128) (j : Fin 1024) :
    k0_pay27 (F := Ideal) x0 (ix2 k j) = x0 (ix4 0 0 k j) := by
  unfold k0_pay27
  pointwise

theorem pay1_at (q : FVec Ideal S128x1024 .bf16) (x : Vec Ideal S1024x128 .bf16) (p j : Fin 1024) :
    (k0_pay1 (F := Ideal) q x (ix2 p j) : EReal) = ∑ k : Fin 128, (x (ix2 p k) : EReal) * (q (ix2 k j) : EReal) := by
  unfold k0_pay1
  pointwise

theorem pay34_at (q : FVec Ideal S128x1024 .bf16) (x : Vec Ideal S1024x128 .bf16) (p j : Fin 1024) :
    (k0_pay34 (F := Ideal) q x (ix2 p j) : EReal) = ∑ k : Fin 128, (x (ix2 p k) : EReal) * (q (ix2 k j) : EReal) := by
  unfold k0_pay34
  pointwise

theorem pay28_at (x0 : Vec Ideal S1x1x128x1024 .bf16) (x : Vec Ideal S256x128 .bf16) (p : Fin 256) (j : Fin 1024) :
    (k0_pay28 (F := Ideal) x0 x (ix2 p j) : EReal) = ∑ k : Fin 128, (x (ix2 p k) : EReal) * (x0 (ix4 0 0 k j) : EReal) := by
  unfold k0_pay28 k0_pay27
  pointwise

theorem pay2_at (s : Vec Ideal S1024x1024 .f32) (m : Vec Ideal S1x1024 .f32) (j : Fin 1024) :
    (k0_pay2 (F := Ideal) s m (ix2 0 j) : EReal) = max (m (ix2 0 j) : EReal) (Finset.univ.sup fun p : Fin 1024 => (s (ix2 p j) : EReal)) := by
  unfold k0_pay2
  pointwise
  rw [neg_infinity]
  exact congrArg _ (fold_max _)

theorem topOf_at (s : Vec Ideal S1024x1024 .f32) (m : Vec Ideal S1x1024 .f32) (j : Fin 1024) :
    topOf (F := Ideal) s m (ix2 0 j) = k0_pay2 (F := Ideal) s m (ix2 0 j) := by
  unfold topOf k0_pay7
  generalize k0_pay2 (F := Ideal) s m = t
  pointwise

theorem pay4_at (s : Vec Ideal S1024x1024 .f32) (m : Vec Ideal S1x1024 .f32) (p j : Fin 1024) :
    (k0_pay4 (F := Ideal) s m (ix2 p j) : EReal) = wt (s (ix2 p j)) (topOf (F := Ideal) s m (ix2 0 j)) := by
  rw [topOf_at]
  unfold k0_pay4
  generalize k0_pay2 (F := Ideal) s m = t
  pointwise
  rfl

theorem pay3_at (s : Vec Ideal S1024x1024 .f32) (m : Vec Ideal S1x1024 .f32) (j : Fin 1024) :
    (k0_pay3 (F := Ideal) s m (ix2 0 j) : EReal) = wt (m (ix2 0 j)) (topOf (F := Ideal) s m (ix2 0 j)) := by
  rw [topOf_at]
  unfold k0_pay3
  generalize k0_pay2 (F := Ideal) s m = t
  pointwise
  rfl

theorem totalOf_at (s : Vec Ideal S1024x1024 .f32) (m l : Vec Ideal S1x1024 .f32) (j : Fin 1024) :
    (totalOf (F := Ideal) s m l (ix2 0 j) : EReal) = wt (m (ix2 0 j)) (topOf (F := Ideal) s m (ix2 0 j)) * (l (ix2 0 j) : EReal)
      + ∑ p : Fin 1024, wt (s (ix2 p j)) (topOf (F := Ideal) s m (ix2 0 j)) := by
  rw [← pay3_at]
  simp only [← pay4_at]
  unfold totalOf k0_pay5
  generalize k0_pay3 (F := Ideal) s m = t
  generalize k0_pay4 (F := Ideal) s m = u
  pointwise

theorem strip_congr (w : Fin 4 → Vec Ideal S1x1x128x256 .bf16) (d : Fin 128) {i i' : Fin 4} {r r' : Fin 256}
    (h : i = i') (h' : r = r') : w i (ix4 0 0 d r) = w i' (ix4 0 0 d r') := by
  subst h h'
  rfl

theorem strip_pick (w : Fin 4 → Vec Ideal S1x1x128x256 .bf16) (d : Fin 128) (x : Fin 1024) :
    (if h : x.val < 256 then w 0 (ix4 0 0 d ⟨x.val, h⟩)
      else if h : x.val - 256 < 256 then w 1 (ix4 0 0 d ⟨x.val - 256, h⟩)
      else if h : x.val - 256 - 256 < 256 then w 2 (ix4 0 0 d ⟨x.val - 256 - 256, h⟩)
      else w 3 (ix4 0 0 d ⟨x.val - 256 - 256 - 256, by omega⟩)) = w ⟨x.val / 256, by omega⟩ (ix4 0 0 d ⟨x.val % 256, by omega⟩) := by
  by_cases h0 : x.val < 256
  · rw [dif_pos h0]
    exact strip_congr w d (Fin.ext (by show 0 = x.val / 256; omega)) (Fin.ext (by show x.val = x.val % 256; omega))
  rw [dif_neg h0]
  by_cases h1 : x.val - 256 < 256
  · rw [dif_pos h1]
    exact strip_congr w d (Fin.ext (by show 1 = x.val / 256; omega)) (Fin.ext (by show x.val - 256 = x.val % 256; omega))
  rw [dif_neg h1]
  by_cases h2 : x.val - 256 - 256 < 256
  · rw [dif_pos h2]
    exact strip_congr w d (Fin.ext (by show 2 = x.val / 256; omega)) (Fin.ext (by show x.val - 256 - 256 = x.val % 256; omega))
  rw [dif_neg h2]
  exact strip_congr w d (Fin.ext (by show 3 = x.val / 256; omega)) (Fin.ext (by show x.val - 256 - 256 - 256 = x.val % 256; omega))

theorem sumOf_at (s : Vec Ideal S1024x1024 .f32) (m : Vec Ideal S1x1024 .f32) (a : Vec Ideal S128x1024 .f32)
    (w : Fin 4 → Vec Ideal S1x1x128x256 .bf16) (d : Fin 128) (j : Fin 1024) :
    (sumOf (F := Ideal) s m a w (ix2 d j) : EReal) = wt (m (ix2 0 j)) (topOf (F := Ideal) s m (ix2 0 j)) * (a (ix2 d j) : EReal)
      + ∑ p : Fin 1024, (w ⟨p.val / 256, by omega⟩ (ix4 0 0 d ⟨p.val % 256, by omega⟩) : EReal) * wt (s (ix2 p j)) (topOf (F := Ideal) s m (ix2 0 j)) := by
  rw [← pay3_at]
  simp only [← pay4_at]
  unfold sumOf k0_pay6
  generalize k0_pay3 (F := Ideal) s m = t
  generalize k0_pay4 (F := Ideal) s m = u
  pointwise
  exact congrArg (_ + ·) (Finset.sum_congr rfl fun x _ => congrArg (· * _) (strip_pick w d x))

theorem pay29_at (x0 : Vec Ideal S1x1x128x1024 .bf16) (x : Vec Ideal S256x128 .bf16) (j : Fin 1024) :
    (k0_pay29 (F := Ideal) x0 x (ix2 0 j) : EReal) = Finset.univ.sup fun p : Fin 256 => (k0_pay28 (F := Ideal) x0 x (ix2 p j) : EReal) := by
  unfold k0_pay29
  generalize k0_pay28 (F := Ideal) x0 x = t
  pointwise
  rw [neg_infinity]
  exact fold_max _

theorem pay31_at (x0 : Vec Ideal S1x1x128x1024 .bf16) (x : Vec Ideal S256x128 .bf16) (j : Fin 1024) :
    (k0_pay31 (F := Ideal) x0 x (ix2 0 j) : EReal) = k0_pay29 (F := Ideal) x0 x (ix2 0 j) := by
  unfold k0_pay31
  generalize k0_pay29 (F := Ideal) x0 x = t
  pointwise

theorem pay30_at (x0 : Vec Ideal S1x1x128x1024 .bf16) (x : Vec Ideal S256x128 .bf16) (p : Fin 256) (j : Fin 1024) :
    (k0_pay30 (F := Ideal) x0 x (ix2 p j) : EReal) = wt (k0_pay28 (F := Ideal) x0 x (ix2 p j)) (k0_pay31 (F := Ideal) x0 x (ix2 0 j)) := by
  rw [pay31_at]
  unfold k0_pay30
  generalize k0_pay29 (F := Ideal) x0 x = t
  generalize k0_pay28 (F := Ideal) x0 x = u
  pointwise
  rfl

theorem pay32_at (x0 : Vec Ideal S1x1x128x1024 .bf16) (x : Vec Ideal S256x128 .bf16) (j : Fin 1024) :
    (k0_pay32 (F := Ideal) x0 x (ix2 0 j) : EReal)
      = ∑ p : Fin 256, wt (k0_pay28 (F := Ideal) x0 x (ix2 p j)) (k0_pay31 (F := Ideal) x0 x (ix2 0 j)) := by
  simp only [← pay30_at]
  unfold k0_pay32
  generalize k0_pay30 (F := Ideal) x0 x = u
  pointwise

theorem pay33_at (x0 : Vec Ideal S1x1x128x1024 .bf16) (x : Vec Ideal S256x128 .bf16) (w : Vec Ideal S1x1x128x256 .bf16) (d : Fin 128) (j : Fin 1024) :
    (k0_pay33 (F := Ideal) x0 x w (ix2 d j) : EReal)
      = ∑ p : Fin 256, (w (ix4 0 0 d p) : EReal) * wt (k0_pay28 (F := Ideal) x0 x (ix2 p j)) (k0_pay31 (F := Ideal) x0 x (ix2 0 j)) := by
  simp only [← pay30_at]
  unfold k0_pay33
  generalize k0_pay30 (F := Ideal) x0 x = u
  pointwise

theorem mean_at (a : Vec Ideal S128x1024 .f32) (l : Vec Ideal S1x1024 .f32) (d : Fin 128) (j : Fin 1024) :
    (k0_pay37 (F := Ideal) a l (ix2 d j) : EReal) = Ideal.div (a (ix2 d j)) (l (ix2 0 j)) := by
  unfold k0_pay37
  pointwise

theorem stored38 (a : Vec Ideal S128x1024 .f32) (l : Vec Ideal S1x1024 .f32) (r : Fin 256) (d : Fin 128) :
    (k0_pay38 (F := Ideal) a l (ix2 r d) : EReal) = k0_pay37 (F := Ideal) a l (ix2 d ⟨r.val, by omega⟩) := by
  unfold k0_pay38
  generalize k0_pay37 (F := Ideal) a l = u
  pointwise

theorem stored39 (a : Vec Ideal S128x1024 .f32) (l : Vec Ideal S1x1024 .f32) (r : Fin 256) (d : Fin 128) :
    (k0_pay39 (F := Ideal) a l (ix2 r d) : EReal) = k0_pay37 (F := Ideal) a l (ix2 d ⟨256 + r.val, by omega⟩) := by
  unfold k0_pay39
  generalize k0_pay37 (F := Ideal) a l = u
  pointwise

theorem stored40 (a : Vec Ideal S128x1024 .f32) (l : Vec Ideal S1x1024 .f32) (r : Fin 256) (d : Fin 128) :
    (k0_pay40 (F := Ideal) a l (ix2 r d) : EReal) = k0_pay37 (F := Ideal) a l (ix2 d ⟨512 + r.val, by omega⟩) := by
  unfold k0_pay40
  generalize k0_pay37 (F := Ideal) a l = u
  pointwise

theorem stored41 (a : Vec Ideal S128x1024 .f32) (l : Vec Ideal S1x1024 .f32) (r : Fin 256) (d : Fin 128) :
    (k0_pay41 (F := Ideal) a l (ix2 r d) : EReal) = k0_pay37 (F := Ideal) a l (ix2 d ⟨768 + r.val, by omega⟩) := by
  unfold k0_pay41
  generalize k0_pay37 (F := Ideal) a l = u
  pointwise

end Cert.Kernel5Ideal.Trip

end
-- ==== Proof.AttentionRun.lean ====
module

public import proofs.«01_k».proof.Proof.Gen.Kernel5Ideal.Frame.Runs
public import proofs.«01_k».proof.Proof.AttentionTrip
public import Idealize.ShloMosaic.Lib.Claim

@[expose] public section

/-! # The attention's body and its run -/

set_option maxRecDepth 16384

noncomputable section

namespace Cert.Kernel5Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen Cert.Kernel5Ideal.Trip

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first 256 keys. -/
def context (x : Vec F S8448x128 .bf16) : Vec F S256x128 .bf16 := fun j => x (ix2 (⟨(j (0 : Fin 2)).val, lt_trans (j (0 : Fin 2)).isLt (by decide)⟩ : Fin 8448) (j (1 : Fin 2)))

/-- The state before the loop: the first 256 keys taken in, and the next chunk's scores. -/
def start (x0 : Vec F S1x1x128x1024 .bf16) (x1 : Vec F S8448x128 .bf16) (x2 : Vec F S1x33x128x256 .bf16) : State F where
  top := k0_pay31 x0 (context x1)
  total := k0_pay32 x0 (context x1)
  sum := k0_pay33 x0 (context x1) (strip x2 0)
  even := k0_pay34 (k0_pay27 x0) (keys x1 0)
  odd := k0_pay34 (k0_pay27 x0) (keys x1 0)

theorem start_top (x0 : Vec F S1x1x128x1024 .bf16) (x1 : Vec F S8448x128 .bf16) (x2 : Vec F S1x33x128x256 .bf16) :
    (start x0 x1 x2).top = k0_pay31 x0 (context x1) := by dsimp only [start]

/-- The state after the loop at grid point `i`. -/
def last (i : grid0.Coords) (x0 : Vec F S1x1x128x1024 .bf16) (x1 : Vec F S8448x128 .bf16) (x2 : Vec F S1x33x128x256 .bf16) : State F :=
  loop (k0_pay27 x0) x1 x2 (start x0 x1 x2) (k0_t1_loop i).trips

/-- What is stored of a state, as the four pieces of the block, and the block they make. -/
def pieces (a : Vec F S128x1024 .f32) (l : Vec F S1x1024 .f32) : List (View.Piece (Elt F) S256x512 .bf16) :=
  [⟨Rect.unit (s := S256x512) ![0, 384] S256x128.size inb_S256x512_S256x128_0_384, k0_pay41 a l⟩,
   ⟨Rect.unit (s := S256x512) ![0, 256] S256x128.size inb_S256x512_S256x128_0_256, k0_pay40 a l⟩,
   ⟨Rect.unit (s := S256x512) ![0, 128] S256x128.size inb_S256x512_S256x128_0_128, k0_pay39 a l⟩,
   ⟨Rect.unit (s := S256x512) ![0, 0] S256x128.size inb_S256x512_S256x128_0_0, k0_pay38 a l⟩]

theorem pieces_cover (a : Vec F S128x1024 .f32) (l : Vec F S1x1024 .f32) (y : S256x512.Idx) : ∃ pc ∈ pieces a l, y ∈ pc.1.set :=
  View.cover_of_tiledL (pieces a l) S256x128.size (by sl_kernel_rfl) y

def block (S : State F) : Vec F S256x512 .bf16 := VO0_3.read (Elt F) (VO0_3.writes (Elt F) VO0_3.junk (pieces S.sum S.total))

section
variable (arg3 : Memref sig .tc .vmem S8448x128 .bf16) (harg3 : arg3.IsWhole) (arg4 : Memref sig .tc .vmem S1x33x128x256 .bf16) (harg4 : arg4.IsWhole)

theorem context_read (x1 : Vec F S8448x128 .bf16) :
    View.readAt (Elt F) arg3.view (Rect.unit (s := S8448x128) ![0, 0] S256x128.size inb_S8448x128_S256x128_0_0).toLoadRect (harg3.unread x1) = context x1 := by
  refine funext fun (x : S256x128.Idx) => ?_
  refine (congrFun (harg3.read_unread x1) ((Rect.unit (s := S8448x128) ![0, 0] S256x128.size inb_S8448x128_S256x128_0_0).emb x)).trans (congrArg x1 ?_)
  funext a
  apply Fin.ext
  match a with
  | ⟨0, _⟩ => show 0 + 1 * (x (0 : Fin 2)).val = (x (0 : Fin 2)).val; omega
  | ⟨1, _⟩ => show 0 + 1 * (x (1 : Fin 2)).val = (x (1 : Fin 2)).val; omega

theorem chunk_read (x1 : Vec F S8448x128 .bf16) :
    View.readAt (Elt F) arg3.view (Rect.unit (s := S8448x128) k0_off1 S1024x128.size k0_off1_inb).toLoadRect (harg3.unread x1) = keys x1 0 := by
  refine funext fun (x : S1024x128.Idx) => ?_
  refine (congrFun (harg3.read_unread x1) ((Rect.unit (s := S8448x128) k0_off1 S1024x128.size k0_off1_inb).emb x)).trans (congrArg x1 ?_)
  funext a
  apply Fin.ext
  show k0_off1 a + 1 * (x a).val = _
  rw [congrFun k0_off1_eq a]
  match a with
  | ⟨0, _⟩ => show 256 + 1 * (x (0 : Fin 2)).val = 256 + 1024 * 0 + (x (0 : Fin 2)).val; omega
  | ⟨1, _⟩ => show 0 + 1 * (x (1 : Fin 2)).val = (x (1 : Fin 2)).val; omega

theorem strip_read0 (x2 : Vec F S1x33x128x256 .bf16) :
    View.readAt (Elt F) arg4.view (Rect.unit (s := S1x33x128x256) ![0, 0, 0, 0] S1x1x128x256.size inb_S1x33x128x256_S1x1x128x256_0_0_0_0).toLoadRect
      (harg4.unread x2) = strip x2 0 := by
  refine funext fun (x : S1x1x128x256.Idx) => ?_
  refine (congrFun (harg4.read_unread x2) ((Rect.unit (s := S1x33x128x256) ![0, 0, 0, 0] S1x1x128x256.size inb_S1x33x128x256_S1x1x128x256_0_0_0_0).emb x)).trans (congrArg x2 ?_)
  funext a
  apply Fin.ext
  match a with
  | ⟨0, _⟩ => show 0 + 1 * (x (0 : Fin 4)).val = 0; have : (x (0 : Fin 4)).val < 1 := (x (0 : Fin 4)).isLt; omega
  | ⟨1, _⟩ => show 0 + 1 * (x (1 : Fin 4)).val = 0; have : (x (1 : Fin 4)).val < 1 := (x (1 : Fin 4)).isLt; omega
  | ⟨2, _⟩ => show 0 + 1 * (x (2 : Fin 4)).val = (x (2 : Fin 4)).val; omega
  | ⟨3, _⟩ => show 0 + 1 * (x (3 : Fin 4)).val = (x (3 : Fin 4)).val; omega
end

set_option maxHeartbeats 1000000 in
/-- The body at any staging buffers: from the three blocks it leaves the block of the loop's last state. -/
theorem body_run (c : Dev nD) (i : grid0.Coords) (arg2 : Memref sig .tc .vmem S1x1x128x1024 .bf16) (harg2 : arg2.IsWhole) (arg3 : Memref sig .tc .vmem S8448x128 .bf16) (harg3 : arg3.IsWhole) (arg4 : Memref sig .tc .vmem S1x33x128x256 .bf16) (harg4 : arg4.IsWhole) (arg5 : Memref sig .tc .vmem S256x512 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S1024x1024 .f32) (harg9 : arg9.IsWhole) (arg10 : Memref sig .tc .vmem S1024x1024 .f32) (harg10 : arg10.IsWhole)
    (x0 : Vec F S1x1x128x1024 .bf16) (x1 : Vec F S8448x128 .bf16) (x2 : Vec F S1x33x128x256 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare (block (last i x0 x1 x2)) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K := by
  simp only [cc0_attention_eq_skeleton]; unfold cc0_attention_skel
  simp only [k0_part9_eq_skeleton, k0_part10_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    have h : ∀ a l, a = (last i x0 x1 x2).sum → l = (last i x0 x1 x2).total →
        arg5.view.read (Elt F) (arg5.view.writes (Elt F) f3 (pieces a l)) = block (last i x0 x1 x2) := by
      rintro a l rfl rfl
      exact View.read_writes_of_cover _ _ _ _ _ (pieces_cover _ _)
    have e0 : View.readAt (Elt F) arg2.view (Rect.unit (s := S1x1x128x1024) ![0, 0, 0, 0] S1x1x128x1024.size inb_S1x1x128x1024_S1x1x128x1024_0_0_0_0).toLoadRect (harg2.unread x0) = x0 :=
      (View.readAt_full (Val := Elt F) arg2.view (harg2.unread x0) (off := ![0, 0, 0, 0]) _).trans (harg2.read_unread x0)
    have e1 := context_read arg3 harg3 x1
    have e2 := strip_read0 arg4 harg4 x2
    have t0 := congr (congrArg (k0_pay31 (F := F)) e0) e1
    have t1 := congr (congrArg (k0_pay32 (F := F)) e0) e1
    have t2 := congr (congr (congrArg (k0_pay33 (F := F)) e0) e1) e2
    have g0 : arg6.view.read (Elt F) (arg6.view.writes (Elt F) arg6.view.junk (body_run.sl.HS0_1 c arg2 harg2 arg3 harg3 x0 x1)) = (start x0 x1 x2).top := by
      unfold body_run.sl.HS0_1
      refine (View.read_writes_full arg6.view _ _ _ []).trans ?_
      rw [start_top]
      exact t0
    have g1 : arg7.view.read (Elt F) (arg7.view.writes (Elt F) arg7.view.junk (body_run.sl.HS1_1 c arg2 harg2 arg3 harg3 x0 x1)) = (start x0 x1 x2).total := by
      unfold body_run.sl.HS1_1
      refine (View.read_writes_full arg7.view _ _ _ []).trans ?_
      exact t1
    have g2 : arg8.view.read (Elt F) (arg8.view.writes (Elt F) arg8.view.junk (body_run.sl.HS2_1 c arg2 harg2 arg3 harg3 arg4 harg4 x0 x1 x2)) = (start x0 x1 x2).sum := by
      unfold body_run.sl.HS2_1
      refine (View.read_writes_full arg8.view _ _ _ []).trans ?_
      exact t2
    have q0 : body_run.sl.r c arg2 harg2 x0 = k0_pay27 x0 := by
      unfold body_run.sl.r
      exact congrArg k0_pay27 e0
    have q1 : body_run.sl.r_1 c arg3 harg3 x1 = keys x1 0 := by
      unfold body_run.sl.r_1
      exact chunk_read arg3 harg3 x1
    have g3 : arg9.view.read (Elt F) (arg9.view.writes (Elt F) arg9.view.junk (body_run.sl.HS3_1 c arg2 harg2 arg3 harg3 x0 x1)) = (start x0 x1 x2).even := by
      unfold body_run.sl.HS3_1
      have t3 := congr (congrArg (k0_pay34 (F := F)) q0) q1
      refine (View.read_writes_full arg9.view _ _ _ []).trans ?_
      exact t3
    have hz : Scf.trips (k0_t2_loop i).lb (k0_t2_loop i).ub (k0_t2_loop i).st = 0 := Nat.le_zero.mp (k0_t2_abs i).2.1
    have hl := loop_reads Variants.none c none i arg2 harg2 arg3 harg3 arg4 harg4 arg5 harg5 arg6 harg6 arg7 harg7 arg8 harg8 arg9 harg9 arg10 harg10
      (BitVec.ofNat 32 (i 1).val) (body_run.sl.r c arg2 harg2 x0) (body_run.sl.r_1 c arg3 harg3 x1) x1 x2 (start x0 x1 x2) _ _ _ _ fs4 g0 g1 g2 g3
      (Scf.trips (k0_t1_loop i).lb (k0_t1_loop i).ub (k0_t1_loop i).st) le_rfl _ rfl
    rw [← View.writes_append, ← View.writes_append, ← View.writes_append, ← View.writes_append] at hl
    have ht : loop (body_run.sl.r c arg2 harg2 x0) x1 x2 (start x0 x1 x2) (Scf.trips (k0_t1_loop i).lb (k0_t1_loop i).ub (k0_t1_loop i).st) = last i x0 x1 x2 := by
      rw [q0]; rfl
    refine h _ _ ?_ ?_
    · unfold body_run.sl.v41
      refine (View.readAt_full (Val := Elt F) arg8.view _ (off := ![0, 0]) _).trans ?_
      rw [hz, pb_k0_t2]
      dsimp only [List.nil_append]
      refine Eq.trans ?_ (congrArg State.sum ht)
      exact hl.2.2.1
    · unfold body_run.sl.v42
      refine (View.readAt_full (Val := Elt F) arg7.view _ (off := ![0, 0]) _).trans ?_
      rw [hz, pb_k0_t2]
      dsimp only [List.nil_append]
      refine Eq.trans ?_ (congrArg State.total ht)
      exact hl.2.1
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Kernel5Ideal.Run

end
-- ==== Proof.AttentionFrame.lean ====
module

public import proofs.«01_k».proof.Proof.AttentionRun
public import Idealize.ShloMosaic.Lib.Pipeline.Value

@[expose] public section

/-! # The attention's pipeline: its run, and what its result array holds -/

set_option maxRecDepth 16384

noncomputable section

namespace Cert.Kernel5Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen Cert.Kernel5Ideal.Trip

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in its block of the result. -/
def outAt (c : Dev nD) (t : Fin cfg0.N) : Vec F S256x512 .bf16 :=
  block (last (grid0.coords t) (iblk m c 0 t) (iblk m c 1 t) (iblk m c 2 t))

/-- The pipeline's data: the arrays as launched, each input's buffer at its block, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is entered with at point `t`, and what it leaves. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem sound_body (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, PhiA0_eq]
  unfold outAt
  iintro ⟨⟨⟨HS0, HS1, HS2, HS3, HS4⟩, Hg⟩, Ho, ⟨%d0, H0⟩, ⟨%d1, H1⟩, ⟨%d2, H2⟩, ⟨%d3, H3⟩⟩
  iapply (body_run c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  iexact H3

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- Every run ends, with the arguments as launched and no semaphore left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_all m ρ))

/-- What every run leaves in the result array, the arguments as launched. -/
theorem run_result : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

/-- Distinct points write distinct blocks. -/
theorem index_inj : ∀ t t' : Fin cfg0.N, win0_3.index t = win0_3.index t' → t = t' :=
  (by decide +kernel : ∀ t t' : Fin grid0.N, win0_3.index t = win0_3.index t' → t = t')

/-- Block `t` of the result array, at the end, is what point `t` left. -/
theorem block_of (c : Dev nD) (t : Fin cfg0.N) (hf : (cfg0.win 3).flush t = true) :
    ((cfg0.win 3).blk t).view.read (Elt F) ((dats m 0 c).arrAt 3 cfg0.N) = (cfg0.win 3).cut (grid0.coords t) (outAt m c t) := by
  refine ((dats m 0 c).read_blk_arrAt_eq_flushed 3 (fun t t' _ _ hne => (cfg0.win 3).disjoint_blk fun h => hne (index_inj t t' h)) cfg0.N t t.isLt hf).trans ?_
  show (cfg0.win 3).cut (grid0.coords t) ((dats m 0 c).after 3 t) = _
  rw [after3]

end Cert.Kernel5Ideal.Run

end
-- ==== Proof.AttentionValue.lean ====
module

public import proofs.«01_k».proof.Proof.AttentionEntries
public import proofs.«01_k».proof.Proof.AttentionFrame
public import Idealize.ShloMosaic.Lib.WritesUnit

@[expose] public section

/-! # The attention's state holds the weighted means so far -/

set_option maxRecDepth 16384

noncomputable section

namespace Cert.Kernel5Ideal.Attend

open Idealize.ShloMosaic Idealize.ShloMosaic.TcCoe
open Cert.Kernel5Ideal Cert.Kernel5Ideal.Gen Cert.Kernel5Ideal.Trip Cert.Kernel5Ideal.Run Cert.Soft

section
variable (x0 : Vec Ideal S1x1x128x1024 .bf16) (x1 : Vec Ideal S8448x128 .bf16) (x2 : Vec Ideal S1x33x128x256 .bf16)

/-- Column `j`'s score against key `n`; entry `d` of value `n`. -/
def score (j : Fin 1024) (n : ℕ) : EReal :=
  ∑ k : Fin 128, (x1 (ix2 (⟨n % 8448, Nat.mod_lt _ (by decide)⟩ : Fin 8448) k) : EReal) * (x0 (ix4 0 0 k j) : EReal)
def value (d : Fin 128) (n : ℕ) : EReal :=
  x2 (ix4 (0 : Fin 1) (⟨n % 8448 / 256, by omega⟩ : Fin 33) d (⟨n % 256, Nat.mod_lt _ (by decide)⟩ : Fin 256))

theorem key_congr {a b : Fin 8448} (h : a.val = b.val) (k : Fin 128) : x1 (ix2 a k) = x1 (ix2 b k) := by
  obtain rfl := Fin.ext h
  rfl

theorem value_congr {a b : Fin 33} {r s : Fin 256} (h : a.val = b.val) (h' : r.val = s.val) (d : Fin 128) :
    x2 (ix4 (0 : Fin 1) a d r) = x2 (ix4 (0 : Fin 1) b d s) := by
  obtain rfl := Fin.ext h
  obtain rfl := Fin.ext h'
  rfl

theorem scores_at (n : Fin 8) (p j : Fin 1024) :
    (scores (F := Ideal) (k0_pay27 x0) x1 n (ix2 p j) : EReal) = score x0 x1 j (256 + 1024 * n.val + p.val) := by
  unfold scores
  refine (pay1_at _ _ p j).trans (Finset.sum_congr rfl fun k _ => ?_)
  refine congrArg₂ (fun a b : EReal => a * b) ?_ (query_at x0 k j)
  exact key_congr x1 (by show 256 + 1024 * n.val + p.val = (256 + 1024 * n.val + p.val) % 8448; omega) k

theorem strips_at (n : Fin 8) (p : Fin 1024) (d : Fin 128) :
    (strips (F := Ideal) x2 n ⟨p.val / 256, by omega⟩ (ix4 0 0 d ⟨p.val % 256, by omega⟩) : EReal) = value x2 d (256 + 1024 * n.val + p.val) := by
  unfold strips strip value
  exact value_congr x2 (by show 4 * n.val + p.val / 256 + 1 = (256 + 1024 * n.val + p.val) % 8448 / 256; omega)
    (by show p.val % 256 = (256 + 1024 * n.val + p.val) % 256; omega) d

/-- The state has taken in the first `N` keys. -/
structure Holds (m l : Vec Ideal S1x1024 .f32) (a : Vec Ideal S128x1024 .f32) (N : ℕ) : Prop where
  top : ∀ j : Fin 1024, (m (ix2 0 j) : EReal) = Soft.top (score x0 x1 j) N
  total : ∀ j : Fin 1024, (l (ix2 0 j) : EReal) = num (score x0 x1 j) (fun _ => 1) N
  sum : ∀ (d : Fin 128) (j : Fin 1024), (a (ix2 d j) : EReal) = num (score x0 x1 j) (value x2 d) N

/-- One chunk taken in. -/
theorem step (n : Fin 8) (s : Vec Ideal S1024x1024 .f32) (m l : Vec Ideal S1x1024 .f32) (a : Vec Ideal S128x1024 .f32)
    (hs : ∀ p j : Fin 1024, (s (ix2 p j) : EReal) = score x0 x1 j (256 + 1024 * n.val + p.val))
    (h : Holds x0 x1 x2 m l a (256 + 1024 * n.val)) :
    Holds x0 x1 x2 (topOf s m) (totalOf s m l) (sumOf s m a (strips x2 n)) (256 + 1024 * n.val + 1024) := by
  have t : ∀ j : Fin 1024, (topOf s m (ix2 0 j) : EReal) = Soft.top (score x0 x1 j) (256 + 1024 * n.val + 1024) := fun j => by
    refine (topOf_at s m j).trans ((pay2_at s m j).trans ?_)
    rw [top_add, h.top]
    exact congrArg (fun f : Fin 1024 → EReal => max _ (Finset.univ.sup f)) (funext fun p => hs p j)
  refine ⟨t, fun j => ?_, fun d j => ?_⟩
  · refine (totalOf_at s m l j).trans ?_
    rw [num_add, t, h.top, h.total]
    exact congrArg₂ (fun a b : EReal => a + b) rfl (Finset.sum_congr rfl fun p _ => by rw [hs, one_mul])
  · refine (sumOf_at s m a _ d j).trans ?_
    rw [num_add, t, h.top, h.sum]
    exact congrArg₂ (fun a b : EReal => a + b) rfl (Finset.sum_congr rfl fun p _ => by rw [hs, strips_at])

theorem context_at (p : Fin 256) (j : Fin 1024) : (k0_pay28 (F := Ideal) x0 (context x1) (ix2 p j) : EReal) = score x0 x1 j p.val := by
  refine (pay28_at _ _ p j).trans (Finset.sum_congr rfl fun k _ => congrArg (· * _) ?_)
  exact key_congr x1 (by show p.val = p.val % 8448; omega) k

theorem strip_at (p : Fin 256) (d : Fin 128) : (strip (F := Ideal) x2 0 (ix4 0 0 d p) : EReal) = value x2 d p.val := by
  unfold strip value
  exact value_congr x2 (by show 0 = p.val % 8448 / 256; omega) (by show p.val = p.val % 256; omega) d

/-- The state before the loop has taken in the first 256 keys. -/
theorem start_holds : Holds x0 x1 x2 (k0_pay31 x0 (context x1)) (k0_pay32 x0 (context x1)) (k0_pay33 x0 (context x1) (strip x2 0)) 256 := by
  have t : ∀ j : Fin 1024, (k0_pay31 (F := Ideal) x0 (context x1) (ix2 0 j) : EReal) = Soft.top (score x0 x1 j) 256 := fun j => by
    refine (pay31_at _ _ j).trans ((pay29_at _ _ j).trans ?_)
    rw [top_fin]
    exact congrArg Finset.univ.sup (funext fun p => context_at x0 x1 p j)
  refine ⟨t, fun j => ?_, fun d j => ?_⟩
  · refine (pay32_at _ _ j).trans ?_
    rw [num_fin, t]
    exact Finset.sum_congr rfl fun p _ => by rw [context_at, one_mul]
  · refine (pay33_at _ _ _ d j).trans ?_
    rw [num_fin, t]
    exact Finset.sum_congr rfl fun p _ => by rw [context_at, strip_at]

/-- After `n` trips it has taken in `2048 n` more, and the next chunk's scores are at hand. -/
theorem loop_holds (S : State Ideal) (h : Holds x0 x1 x2 S.top S.total S.sum 256)
    (hs : ∀ p j : Fin 1024, (S.even (ix2 p j) : EReal) = score x0 x1 j (256 + p.val)) (n : ℕ) (hn : n ≤ 4) :
    Holds x0 x1 x2 (loop (k0_pay27 x0) x1 x2 S n).top (loop (k0_pay27 x0) x1 x2 S n).total (loop (k0_pay27 x0) x1 x2 S n).sum (256 + 1024 * (2 * n))
    ∧ ∀ p j : Fin 1024, ((loop (k0_pay27 x0) x1 x2 S n).even (ix2 p j) : EReal) = score x0 x1 j (256 + 1024 * min (2 * n) 7 + p.val) := by
  induction n with
  | zero => exact ⟨h, hs⟩
  | succ n ih =>
    have h4 : n < 4 := hn
    have e : loop (k0_pay27 x0) x1 x2 S (n + 1) = trip (k0_pay27 x0) x1 x2 ⟨n, h4⟩ (loop (k0_pay27 x0) x1 x2 S n) := dif_pos h4
    obtain ⟨g, gs⟩ := ih (le_of_lt h4)
    rw [e]
    have hm : min (2 * n) 7 = 2 * n := by omega
    rw [hm] at gs
    have u := step x0 x1 x2 (first ⟨n, h4⟩) _ _ _ _ gs g
    have e1 : 256 + 1024 * (first ⟨n, h4⟩).val + 1024 = 256 + 1024 * (second ⟨n, h4⟩).val := by
      show 256 + 1024 * (2 * n) + 1024 = 256 + 1024 * (2 * n + 1)
      omega
    have e2 : 256 + 1024 * (second ⟨n, h4⟩).val + 1024 = 256 + 1024 * (2 * (n + 1)) := by
      show 256 + 1024 * (2 * n + 1) + 1024 = 256 + 1024 * (2 * (n + 1))
      omega
    have e3 : min (2 * (n + 1)) 7 = (next ⟨n, h4⟩).val := by
      show min (2 * (n + 1)) 7 = min (2 * n + 2) 7
      omega
    rw [e1] at u
    have v := step x0 x1 x2 (second ⟨n, h4⟩) (scores (k0_pay27 x0) x1 (second ⟨n, h4⟩)) _ _ _ (fun p j => scores_at x0 x1 (second ⟨n, h4⟩) p j) u
    rw [e2] at v
    rw [e3]
    dsimp only [trip]
    exact ⟨v, fun p j => scores_at x0 x1 (next ⟨n, h4⟩) p j⟩

end

/-- The loop's trips: none for the first block of rows, four for the others. -/
theorem trips_eq : ∀ t : Fin cfg0.N, (k0_t1_loop (grid0.coords t)).trips = if t.val % 33 = 0 then 0 else 4 :=
  (by decide +kernel : ∀ t : Fin grid0.N, _)

/-- The number of keys a block's rows attend to. -/
def keysOf (b : ℕ) : ℕ := if b = 0 then 256 else 8448

theorem last_holds (x0 : Vec Ideal S1x1x128x1024 .bf16) (x1 : Vec Ideal S8448x128 .bf16) (x2 : Vec Ideal S1x33x128x256 .bf16) (t : Fin cfg0.N) :
    Holds x0 x1 x2 (last (grid0.coords t) x0 x1 x2).top (last (grid0.coords t) x0 x1 x2).total (last (grid0.coords t) x0 x1 x2).sum
      (keysOf (t.val % 33)) := by
  have hs : ∀ p j : Fin 1024, ((start x0 x1 x2).even (ix2 p j) : EReal) = score x0 x1 j (256 + p.val) := fun p j => by
    dsimp only [start]
    refine (pay34_at _ _ p j).trans (Finset.sum_congr rfl fun k _ => ?_)
    refine congrArg₂ (fun a b : EReal => a * b) ?_ (query_at x0 k j)
    exact key_congr x1 (by show 256 + 1024 * 0 + p.val = (256 + p.val) % 8448; omega) k
  have h0 : Holds x0 x1 x2 (start x0 x1 x2).top (start x0 x1 x2).total (start x0 x1 x2).sum 256 := by
    dsimp only [start]
    exact start_holds x0 x1 x2
  unfold last
  rw [trips_eq t]
  unfold keysOf
  by_cases h : t.val % 33 = 0
  · rw [if_pos h, if_pos h]
    exact (loop_holds x0 x1 x2 _ h0 hs 0 (by decide)).1
  · rw [if_neg h, if_neg h]
    exact (loop_holds x0 x1 x2 _ h0 hs 4 (by decide)).1

/-- A column of the state's mean, by its group and row. -/
def column (g : Fin 4) (r : Fin 256) : Fin 1024 := ⟨256 * g.val + r.val, by omega⟩

theorem out_at (S : State Ideal) (r : Fin 256) (g : Fin 4) (d : Fin 128) (s : Fin 512) (hs : s.val = 128 * g.val + d.val) :
    (block S (ix2 r s) : EReal) = k0_pay37 (F := Ideal) S.sum S.total (ix2 d (column g r)) := by
  unfold block pieces
  match g with
  | ⟨0, _⟩ =>
    have e : s.val = 128 * 0 + d.val := hs
    refine (View.read_writes_cons_unit_of_not_mem VO0_3 _ _ _ _ (ix2 r s) rfl (1 : Fin 2) (Or.inl (by show s.val < 384; omega))).trans ?_
    refine (View.read_writes_cons_unit_of_not_mem VO0_3 _ _ _ _ (ix2 r s) rfl (1 : Fin 2) (Or.inl (by show s.val < 256; omega))).trans ?_
    refine (View.read_writes_cons_unit_of_not_mem VO0_3 _ _ _ _ (ix2 r s) rfl (1 : Fin 2) (Or.inl (by show s.val < 128; omega))).trans ?_
    refine (View.read_writes_cons_unit_of_mem VO0_3 _ _ _ _ (ix2 r s) (ix2 r d) rfl fun a => ?_).trans ((stored38 _ _ r d).trans ?_)
    · match a with
      | ⟨0, _⟩ => show r.val = 0 + r.val; omega
      | ⟨1, _⟩ => show s.val = 0 + d.val; omega
    · exact congrArg (fun j => k0_pay37 (F := Ideal) S.sum S.total (ix2 d j)) (Fin.ext (by show r.val = 256 * 0 + r.val; omega))
  | ⟨1, _⟩ =>
    have e : s.val = 128 * 1 + d.val := hs
    refine (View.read_writes_cons_unit_of_not_mem VO0_3 _ _ _ _ (ix2 r s) rfl (1 : Fin 2) (Or.inl (by show s.val < 384; omega))).trans ?_
    refine (View.read_writes_cons_unit_of_not_mem VO0_3 _ _ _ _ (ix2 r s) rfl (1 : Fin 2) (Or.inl (by show s.val < 256; omega))).trans ?_
    refine (View.read_writes_cons_unit_of_mem VO0_3 _ _ _ _ (ix2 r s) (ix2 r d) rfl fun a => ?_).trans ((stored39 _ _ r d).trans ?_)
    · match a with
      | ⟨0, _⟩ => show r.val = 0 + r.val; omega
      | ⟨1, _⟩ => show s.val = 128 + d.val; omega
    · exact congrArg (fun j => k0_pay37 (F := Ideal) S.sum S.total (ix2 d j)) (Fin.ext (by show 256 + r.val = 256 * 1 + r.val; omega))
  | ⟨2, _⟩ =>
    have e : s.val = 128 * 2 + d.val := hs
    refine (View.read_writes_cons_unit_of_not_mem VO0_3 _ _ _ _ (ix2 r s) rfl (1 : Fin 2) (Or.inl (by show s.val < 384; omega))).trans ?_
    refine (View.read_writes_cons_unit_of_mem VO0_3 _ _ _ _ (ix2 r s) (ix2 r d) rfl fun a => ?_).trans ((stored40 _ _ r d).trans ?_)
    · match a with
      | ⟨0, _⟩ => show r.val = 0 + r.val; omega
      | ⟨1, _⟩ => show s.val = 256 + d.val; omega
    · exact congrArg (fun j => k0_pay37 (F := Ideal) S.sum S.total (ix2 d j)) (Fin.ext (by show 512 + r.val = 256 * 2 + r.val; omega))
  | ⟨3, _⟩ =>
    have e : s.val = 128 * 3 + d.val := hs
    refine (View.read_writes_cons_unit_of_mem VO0_3 _ _ _ _ (ix2 r s) (ix2 r d) rfl fun a => ?_).trans ((stored41 _ _ r d).trans ?_)
    · match a with
      | ⟨0, _⟩ => show r.val = 0 + r.val; omega
      | ⟨1, _⟩ => show s.val = 384 + d.val; omega
    · exact congrArg (fun j => k0_pay37 (F := Ideal) S.sum S.total (ix2 d j)) (Fin.ext (by show 768 + r.val = 256 * 3 + r.val; omega))

/-- An entry of a point's block: the weighted mean of the values its row attends to. -/
theorem block_at (x0 : Vec Ideal S1x1x128x1024 .bf16) (x1 : Vec Ideal S8448x128 .bf16) (x2 : Vec Ideal S1x33x128x256 .bf16) (t : Fin cfg0.N)
    (r : Fin 256) (g : Fin 4) (d : Fin 128) (s : Fin 512) (hs : s.val = 128 * g.val + d.val) :
    (block (last (grid0.coords t) x0 x1 x2) (ix2 r s) : EReal)
      = Ideal.div (num (score x0 x1 (column g r)) (value x2 d) (keysOf (t.val % 33))) (num (score x0 x1 (column g r)) (fun _ => 1) (keysOf (t.val % 33))) := by
  have h := last_holds x0 x1 x2 t
  refine (out_at _ r g d s hs).trans ((mean_at _ _ d (column g r)).trans ?_)
  rw [h.total, h.sum]

end Cert.Kernel5Ideal.Attend

end
-- ==== Proof.AttentionReference.lean ====
module

public import proofs.«01_k».proof.Proof.Gen.Reference5Ideal.Run
public import proofs.«01_k».proof.Proof.AttentionSum

@[expose] public section

/-! # The reference attention, entry by entry, over the extended reals -/

set_option maxRecDepth 2048

noncomputable section

namespace Cert.Reference5Ideal.Attend

open Idealize.ShloMosaic Idealize.ShloMosaic.TcCoe
open Cert.Reference5Ideal Cert.Reference5Ideal.Gen Cert.Soft

/-- The queries, keys and values, head by head. -/
def queries (A : FVec Ideal S4x33x128x1024 .bf16) : FVec Ideal S4x4x8448x128 .f32 :=
  shapeCast _ (transpose S4x4x33x256x128 [0, 3, 1, 4, 2] (shapeCast _ (extf .f32 A bitsLt_bf16_f32 : FVec Ideal S4x33x128x1024 .f32) shapeCasts_S4x33x128x1024_S4x33x128x4x256 : FVec Ideal S4x33x128x4x256 .f32) transposes_S4x33x128x4x256_S4x4x33x256x128_0_3_1_4_2 : FVec Ideal S4x4x33x256x128 .f32) shapeCasts_S4x4x33x256x128_S4x4x8448x128
def keys (A : FVec Ideal S8448x512 .bf16) : FVec Ideal S4x8448x128 .f32 :=
  transpose S4x8448x128 [1, 0, 2] (shapeCast _ (extf .f32 A bitsLt_bf16_f32 : FVec Ideal S8448x512 .f32) shapeCasts_S8448x512_S8448x4x128 : FVec Ideal S8448x4x128 .f32) transposes_S8448x4x128_S4x8448x128_1_0_2
def values (A : FVec Ideal S4x33x128x256 .bf16) : FVec Ideal S4x8448x128 .f32 :=
  shapeCast _ (transpose S4x33x256x128 [0, 1, 3, 2] (extf .f32 A bitsLt_bf16_f32 : FVec Ideal S4x33x128x256 .f32) transposes_S4x33x128x256_S4x33x256x128_0_1_3_2 : FVec Ideal S4x33x256x128 .f32) shapeCasts_S4x33x256x128_S4x8448x128

theorem queries_at (A : FVec Ideal S4x33x128x1024 .bf16) (h g : Fin 4) (R : Fin 8448) (k : Fin 128) :
    (queries A (ix4 h g R k) : EReal) = A (ix4 h ⟨R.val / 256, by omega⟩ k ⟨g.val * 256 + R.val % 256, by omega⟩) := by
  unfold queries
  pointwise

theorem keys_at (A : FVec Ideal S8448x512 .bf16) (h : Fin 4) (n : Fin 8448) (k : Fin 128) :
    (keys A (ix3 h n k) : EReal) = A (ix2 n ⟨h.val * 128 + k.val, by omega⟩) := by
  unfold keys
  pointwise

theorem values_at (A : FVec Ideal S4x33x128x256 .bf16) (h : Fin 4) (n : Fin 8448) (d : Fin 128) :
    (values A (ix3 h n d) : EReal) = A (ix4 h ⟨n.val / 256, by omega⟩ d ⟨n.val % 256, by omega⟩) := by
  unfold values
  pointwise

/-- The weights of 256 scores to a row, and their mean of the values. -/
def weights₁ (s : FVec Ideal S4x4x256x256 .f32) : FVec Ideal S4x4x256x256 .f32 :=
  Host.powf (broadcastInDim S4x4x256x256 ![] bcast_S_S4x4x256x256 (constant S_ .f32 0x40000000#32)) (subf s (broadcastInDim S4x4x256x256 ![0, 1, 2, 3] bcast_S4x4x256x1_S4x4x256x256_0_1_2_3 (broadcastInDim S4x4x256x1 ![0, 1, 2] bcast_S4x4x256_S4x4x256x1_0_1_2 (Host.reduce FloatOps.maximumf s (constant S_ .f32 0xFF800000#32) reducesTo_S4x4x256x256_S4x4x256_d3 h_S_ : FVec Ideal S4x4x256 .f32) : FVec Ideal S4x4x256x1 .f32)))
def scores₁ (q : FVec Ideal S4x4x256x128 .f32) (k : FVec Ideal S4x256x128 .f32) : FVec Ideal S4x4x256x256 .f32 :=
  Host.dotGeneral dot_S4x4x256x128_S4x256x128_S4x4x256x256_3_2_12_1_0_0 none q k
def mean₁ (w : FVec Ideal S4x4x256x256 .f32) (v : FVec Ideal S4x256x128 .f32) : FVec Ideal S4x4x256x128 .f32 :=
  Host.divf (Host.dotGeneral dot_S4x4x256x256_S4x256x128_S4x4x256x128_3_1_12_2_0_0 none w v) (broadcastInDim S4x4x256x128 ![0, 1, 2, 3] bcast_S4x4x256x1_S4x4x256x128_0_1_2_3 (broadcastInDim S4x4x256x1 ![0, 1, 2] bcast_S4x4x256_S4x4x256x1_0_1_2 (Host.reduceAdd w (constant S_ .f32 0x00000000#32) reducesTo_S4x4x256x256_S4x4x256_d3 h_S_ : FVec Ideal S4x4x256 .f32) : FVec Ideal S4x4x256x1 .f32))

/-- The same for 8448 scores to a row. -/
def weights₂ (s : FVec Ideal S4x4x8192x8448 .f32) : FVec Ideal S4x4x8192x8448 .f32 :=
  Host.powf (broadcastInDim S4x4x8192x8448 ![] bcast_S_S4x4x8192x8448 (constant S_ .f32 0x40000000#32)) (subf s (broadcastInDim S4x4x8192x8448 ![0, 1, 2, 3] bcast_S4x4x8192x1_S4x4x8192x8448_0_1_2_3 (broadcastInDim S4x4x8192x1 ![0, 1, 2] bcast_S4x4x8192_S4x4x8192x1_0_1_2 (Host.reduce FloatOps.maximumf s (constant S_ .f32 0xFF800000#32) reducesTo_S4x4x8192x8448_S4x4x8192_d3 h_S_ : FVec Ideal S4x4x8192 .f32) : FVec Ideal S4x4x8192x1 .f32)))
def scores₂ (q : FVec Ideal S4x4x8192x128 .f32) (k : FVec Ideal S4x8448x128 .f32) : FVec Ideal S4x4x8192x8448 .f32 :=
  Host.dotGeneral dot_S4x4x8192x128_S4x8448x128_S4x4x8192x8448_3_2_12_1_0_0 none q k
def mean₂ (w : FVec Ideal S4x4x8192x8448 .f32) (v : FVec Ideal S4x8448x128 .f32) : FVec Ideal S4x4x8192x128 .f32 :=
  Host.divf (Host.dotGeneral dot_S4x4x8192x8448_S4x8448x128_S4x4x8192x128_3_1_12_2_0_0 none w v) (broadcastInDim S4x4x8192x128 ![0, 1, 2, 3] bcast_S4x4x8192x1_S4x4x8192x128_0_1_2_3 (broadcastInDim S4x4x8192x1 ![0, 1, 2] bcast_S4x4x8192_S4x4x8192x1_0_1_2 (Host.reduceAdd w (constant S_ .f32 0x00000000#32) reducesTo_S4x4x8192x8448_S4x4x8192_d3 h_S_ : FVec Ideal S4x4x8192 .f32) : FVec Ideal S4x4x8192x1 .f32))

theorem weights₁_at (s : FVec Ideal S4x4x256x256 .f32) (h g : Fin 4) (r : Fin 256) (n : Fin 256) :
    (weights₁ s (ix4 h g r n) : EReal) = wt (s (ix4 h g r n)) (Finset.univ.sup fun k : Fin 256 => (s (ix4 h g r k) : EReal)) := by
  unfold weights₁
  pointwise
  rw [pow_two, neg_infinity, fold_max]
  rfl

theorem weights₂_at (s : FVec Ideal S4x4x8192x8448 .f32) (h g : Fin 4) (r : Fin 8192) (n : Fin 8448) :
    (weights₂ s (ix4 h g r n) : EReal) = wt (s (ix4 h g r n)) (Finset.univ.sup fun k : Fin 8448 => (s (ix4 h g r k) : EReal)) := by
  unfold weights₂
  pointwise
  rw [pow_two, neg_infinity, fold_max]
  rfl

theorem scores₁_at (q : FVec Ideal S4x4x256x128 .f32) (k : FVec Ideal S4x256x128 .f32) (h g : Fin 4) (r n : Fin 256) :
    (scores₁ q k (ix4 h g r n) : EReal) = ∑ i : Fin 128, (q (ix4 h g r i) : EReal) * (k (ix3 h n i) : EReal) := by
  unfold scores₁
  pointwise

theorem scores₂_at (q : FVec Ideal S4x4x8192x128 .f32) (k : FVec Ideal S4x8448x128 .f32) (h g : Fin 4) (r : Fin 8192) (n : Fin 8448) :
    (scores₂ q k (ix4 h g r n) : EReal) = ∑ i : Fin 128, (q (ix4 h g r i) : EReal) * (k (ix3 h n i) : EReal) := by
  unfold scores₂
  pointwise

theorem mean₁_at (w : FVec Ideal S4x4x256x256 .f32) (v : FVec Ideal S4x256x128 .f32) (h g : Fin 4) (r : Fin 256) (d : Fin 128) :
    (mean₁ w v (ix4 h g r d) : EReal) = Ideal.div (∑ n : Fin 256, (w (ix4 h g r n) : EReal) * (v (ix3 h n d) : EReal)) (∑ n : Fin 256, (w (ix4 h g r n) : EReal)) := by
  unfold mean₁
  pointwise

theorem mean₂_at (w : FVec Ideal S4x4x8192x8448 .f32) (v : FVec Ideal S4x8448x128 .f32) (h g : Fin 4) (r : Fin 8192) (d : Fin 128) :
    (mean₂ w v (ix4 h g r d) : EReal) = Ideal.div (∑ n : Fin 8448, (w (ix4 h g r n) : EReal) * (v (ix3 h n d) : EReal)) (∑ n : Fin 8448, (w (ix4 h g r n) : EReal)) := by
  unfold mean₂
  pointwise

/-- The first 256 rows' queries, keys and values, and the other rows' queries. -/
def queries₁ (q : FVec Ideal S4x4x8448x128 .f32) : FVec Ideal S4x4x256x128 .f32 := extractStridedSlice S4x4x256x128 ![0, 0, 0, 0] q slices_S4x4x8448x128_S4x4x256x128_0_0_0_0
def rows₁ (k : FVec Ideal S4x8448x128 .f32) : FVec Ideal S4x256x128 .f32 := extractStridedSlice S4x256x128 ![0, 0, 0] k slices_S4x8448x128_S4x256x128_0_0_0
def queries₂ (q : FVec Ideal S4x4x8448x128 .f32) : FVec Ideal S4x4x8192x128 .f32 := extractStridedSlice S4x4x8192x128 ![0, 0, 256, 0] q slices_S4x4x8448x128_S4x4x8192x128_0_0_256_0

theorem queries₁_at (q : FVec Ideal S4x4x8448x128 .f32) (h g : Fin 4) (r : Fin 256) (k : Fin 128) :
    (queries₁ q (ix4 h g r k) : EReal) = q (ix4 h g ⟨r.val, by omega⟩ k) := by
  unfold queries₁
  pointwise

theorem rows₁_at (x : FVec Ideal S4x8448x128 .f32) (h : Fin 4) (r : Fin 256) (k : Fin 128) :
    (rows₁ x (ix3 h r k) : EReal) = x (ix3 h ⟨r.val, by omega⟩ k) := by
  unfold rows₁
  pointwise

theorem queries₂_at (q : FVec Ideal S4x4x8448x128 .f32) (h g : Fin 4) (r : Fin 8192) (k : Fin 128) :
    (queries₂ q (ix4 h g r k) : EReal) = q (ix4 h g ⟨256 + r.val, by omega⟩ k) := by
  unfold queries₂
  pointwise

/-- The two parts laid one after the other, and each row's heads side by side. -/
def laid (a : FVec Ideal S4x4x256x128 .f32) (b : FVec Ideal S4x4x8192x128 .f32) : FVec Ideal S8448x2048 .bf16 :=
  truncf .bf16 (shapeCast _ (transpose S8448x4x4x128 [2, 0, 1, 3] (concatenate S4x4x8448x128 2 [⟨S4x4x256x128, a⟩, ⟨S4x4x8192x128, b⟩] concatenates_S4x4x256x128_S4x4x8192x128_S4x4x8448x128_d2 : FVec Ideal S4x4x8448x128 .f32) transposes_S4x4x8448x128_S8448x4x4x128_2_0_1_3 : FVec Ideal S8448x4x4x128 .f32) shapeCasts_S8448x4x4x128_S8448x2048 : FVec Ideal S8448x2048 .f32) bitsLt_bf16_f32

theorem laid_at (a : FVec Ideal S4x4x256x128 .f32) (b : FVec Ideal S4x4x8192x128 .f32) (R : Fin 8448) (s : Fin 2048) :
    (laid a b (ix2 R s) : EReal) = if h : R.val < 256 then a (ix4 ⟨s.val / 512, by omega⟩ ⟨s.val / 128 % 4, by omega⟩ ⟨R.val, h⟩ ⟨s.val % 128, by omega⟩)
      else b (ix4 ⟨s.val / 512, by omega⟩ ⟨s.val / 128 % 4, by omega⟩ ⟨R.val - 256, by omega⟩ ⟨s.val % 128, by omega⟩) := by
  unfold laid
  pointwise

/-- What the reference computes of its arguments. -/
def whole (A : FVec Ideal S4x33x128x1024 .bf16) (B : FVec Ideal S8448x512 .bf16) (C : FVec Ideal S4x33x128x256 .bf16) : FVec Ideal S8448x2048 .bf16 :=
  laid (mean₁ (weights₁ (scores₁ (queries₁ (queries A)) (rows₁ (keys B)))) (rows₁ (values C)))
    (mean₂ (weights₂ (scores₂ (queries₂ (queries A)) (keys B))) (values C))

theorem result_whole (m : (ℓ : Loc nD τ sig) → Buf (Elt Ideal) ℓ) (c : Dev nD) :
    Cert.Reference5Ideal.Value.res_out0 m c = whole (m ((c.tc : Thread nD τ).loc main_arg0)) (m ((c.tc : Thread nD τ).loc main_arg1)) (m ((c.tc : Thread nD τ).loc main_arg2)) := by
  unfold Cert.Reference5Ideal.Value.res_out0 Cert.Reference5Ideal.Value.res_main_v41
  unfold whole laid mean₁ mean₂ weights₁ weights₂ scores₁ scores₂ queries₁ queries₂ rows₁ queries keys values
  rfl

/-- The score of a row of queries against key `n`, entry `d` of value `n`, and how many keys a row attends to. -/
def score (A : FVec Ideal S4x33x128x1024 .bf16) (B : FVec Ideal S8448x512 .bf16) (h g : Fin 4) (R : Fin 8448) (n : ℕ) : EReal :=
  ∑ k : Fin 128, (B (ix2 (⟨n % 8448, Nat.mod_lt _ (by decide)⟩ : Fin 8448) (⟨h.val * 128 + k.val, by omega⟩ : Fin 512)) : EReal)
    * (A (ix4 h (⟨R.val / 256, by omega⟩ : Fin 33) k (⟨g.val * 256 + R.val % 256, by omega⟩ : Fin 1024)) : EReal)
def value (C : FVec Ideal S4x33x128x256 .bf16) (h : Fin 4) (d : Fin 128) (n : ℕ) : EReal :=
  C (ix4 h (⟨n % 8448 / 256, by omega⟩ : Fin 33) d (⟨n % 256, Nat.mod_lt _ (by decide)⟩ : Fin 256))
def keysOf (R : ℕ) : ℕ := if R < 256 then 256 else 8448

/-- An entry of the attention: the weighted mean of the values. -/
def entry (A : FVec Ideal S4x33x128x1024 .bf16) (B : FVec Ideal S8448x512 .bf16) (C : FVec Ideal S4x33x128x256 .bf16) (h g : Fin 4) (R : Fin 8448) (d : Fin 128) : EReal :=
  Ideal.div (num (score A B h g R) (value C h d) (keysOf R.val)) (num (score A B h g R) (fun _ => 1) (keysOf R.val))

section
variable (A : FVec Ideal S4x33x128x1024 .bf16) (B : FVec Ideal S8448x512 .bf16) (C : FVec Ideal S4x33x128x256 .bf16)

theorem product_at (h g : Fin 4) (R : Fin 8448) (n : Fin 8448) :
    (∑ i : Fin 128, (queries A (ix4 h g R i) : EReal) * (keys B (ix3 h n i) : EReal)) = score A B h g R n.val := by
  unfold score
  refine Finset.sum_congr rfl fun k _ => ?_
  rw [queries_at, keys_at, mul_comm]
  refine congrArg (· * _) (congrArg (fun a : Fin 8448 => (B (ix2 a _) : EReal)) (Fin.ext ?_))
  show n.val = n.val % 8448
  omega

theorem entry_value (h : Fin 4) (n : Fin 8448) (d : Fin 128) : (values C (ix3 h n d) : EReal) = value C h d n.val := by
  unfold value
  rw [values_at]
  refine congrArg (fun a : Fin 33 => (C (ix4 h a d _) : EReal)) (Fin.ext ?_)
  show n.val / 256 = n.val % 8448 / 256
  omega

/-- Both parts' scores and values, by the key's number. -/
theorem first_score (h g : Fin 4) (r n : Fin 256) :
    (scores₁ (queries₁ (queries A)) (rows₁ (keys B)) (ix4 h g r n) : EReal) = score A B h g ⟨r.val, by omega⟩ n.val := by
  rw [scores₁_at, ← product_at A B h g ⟨r.val, by omega⟩ ⟨n.val, by omega⟩]
  exact Finset.sum_congr rfl fun k _ => by rw [queries₁_at, rows₁_at]

theorem second_score (h g : Fin 4) (r : Fin 8192) (n : Fin 8448) :
    (scores₂ (queries₂ (queries A)) (keys B) (ix4 h g r n) : EReal) = score A B h g ⟨256 + r.val, by omega⟩ n.val := by
  rw [scores₂_at, ← product_at A B h g ⟨256 + r.val, by omega⟩ n]
  exact Finset.sum_congr rfl fun k _ => by rw [queries₂_at]

theorem first_mean (h g : Fin 4) (r : Fin 256) (d : Fin 128) :
    (mean₁ (weights₁ (scores₁ (queries₁ (queries A)) (rows₁ (keys B)))) (rows₁ (values C)) (ix4 h g r d) : EReal)
      = entry A B C h g ⟨r.val, by omega⟩ d := by
  have e : keysOf r.val = 256 := if_pos r.isLt
  unfold entry
  show _ = Ideal.div (num _ _ (keysOf r.val)) (num _ _ (keysOf r.val))
  rw [e, mean₁_at, num_fin, num_fin, top_fin]
  refine congrArg₂ Ideal.div (Finset.sum_congr rfl fun n _ => ?_) (Finset.sum_congr rfl fun n _ => ?_)
  · rw [weights₁_at, mul_comm, rows₁_at, entry_value]
    simp only [first_score]
  · rw [weights₁_at, one_mul]
    simp only [first_score]

theorem second_mean (h g : Fin 4) (r : Fin 8192) (d : Fin 128) :
    (mean₂ (weights₂ (scores₂ (queries₂ (queries A)) (keys B))) (values C) (ix4 h g r d) : EReal)
      = entry A B C h g ⟨256 + r.val, by omega⟩ d := by
  have e : keysOf (256 + r.val) = 8448 := if_neg (by omega)
  unfold entry
  show _ = Ideal.div (num _ _ (keysOf (256 + r.val))) (num _ _ (keysOf (256 + r.val)))
  rw [e, mean₂_at, num_fin, num_fin, top_fin]
  refine congrArg₂ Ideal.div (Finset.sum_congr rfl fun n _ => ?_) (Finset.sum_congr rfl fun n _ => ?_)
  · rw [weights₂_at, mul_comm, entry_value]
    simp only [second_score]
  · rw [weights₂_at, one_mul]
    simp only [second_score]

/-- The reference's result, entry by entry. -/
theorem whole_at (R : Fin 8448) (s : Fin 2048) :
    (whole A B C (ix2 R s) : EReal) = entry A B C ⟨s.val / 512, by omega⟩ ⟨s.val / 128 % 4, by omega⟩ R ⟨s.val % 128, by omega⟩ := by
  unfold whole
  refine (laid_at _ _ R s).trans ?_
  by_cases h : R.val < 256
  · rw [dif_pos h]
    exact first_mean A B C _ _ ⟨R.val, h⟩ _
  · rw [dif_neg h]
    refine (second_mean A B C _ _ ⟨R.val - 256, by omega⟩ _).trans ?_
    exact congrArg (fun a => entry A B C _ _ a _) (Fin.ext (by show 256 + (R.val - 256) = R.val; omega))

end

end Cert.Reference5Ideal.Attend

end
-- ==== Proof.Attention.lean ====
module

public import proofs.«01_k».proof.Proof.AttentionValue
public import proofs.«01_k».proof.Proof.AttentionReference

@[expose] public section

/-! # The attention: each entry of the result is the reference's -/

set_option maxRecDepth 16384

noncomputable section

namespace Cert.Kernel5Ideal.Attend

open Idealize.ShloMosaic Idealize.ShloMosaic.TcCoe
open Cert.Kernel5Ideal Cert.Kernel5Ideal.Gen Cert.Kernel5Ideal.Run Cert.Soft
open Idealize.ShloMosaic.Pipeline (Dat)

variable (m : (ℓ : Loc nD τ sig) → Buf (Elt Ideal) ℓ) (c : Dev nD)

/-- The blocks' places at each point: head by its quotient, rows by its remainder. -/
theorem places : ∀ t : Fin cfg0.N, win0_0.index t (0 : Fin 4) = t.val / 33 ∧ win0_0.index t (1 : Fin 4) = t.val % 33
    ∧ win0_0.index t (2 : Fin 4) = 0 ∧ win0_0.index t (3 : Fin 4) = 0
    ∧ win0_1.index t (0 : Fin 2) = 0 ∧ win0_1.index t (1 : Fin 2) = t.val / 33
    ∧ win0_2.index t (0 : Fin 4) = t.val / 33 ∧ win0_2.index t (1 : Fin 4) = 0
    ∧ win0_2.index t (2 : Fin 4) = 0 ∧ win0_2.index t (3 : Fin 4) = 0
    ∧ win0_3.index t (0 : Fin 2) = t.val % 33 ∧ win0_3.index t (1 : Fin 2) = t.val / 33
    ∧ win0_3.flush t = true :=
  (by decide +kernel : ∀ t : Fin grid0.N, _)

/-- The queries', keys' and values' blocks, entry by entry. -/
theorem queries_at (t : Fin cfg0.N) (k : Fin 128) (j : Fin 1024) (h : Fin 4) (b : Fin 33) (hh : h.val = t.val / 33) (hb : b.val = t.val % 33) :
    iblk m c 0 t (ix4 (0 : Fin 1) (0 : Fin 1) k j) = m ((c : Thread nD τ).loc main_arg0) (ix4 h b k j) := by
  obtain ⟨e0, e1, e2, e3, -⟩ := places t
  show V m c main_arg0 (((cfg0.win 0).blk t).view.emb (ix4 (0 : Fin 1) (0 : Fin 1) k j)) = _
  rw [V_main_arg0]
  congr 1
  funext a
  apply Fin.ext
  match a with
  | ⟨0, _⟩ => show win0_0.index t (0 : Fin 4) * 1 + 1 * 0 = h.val; omega
  | ⟨1, _⟩ => show win0_0.index t (1 : Fin 4) * 1 + 1 * 0 = b.val; omega
  | ⟨2, _⟩ => show win0_0.index t (2 : Fin 4) * 128 + 1 * k.val = k.val; omega
  | ⟨3, _⟩ => show win0_0.index t (3 : Fin 4) * 1024 + 1 * j.val = j.val; omega

theorem keys_at (t : Fin cfg0.N) (n : Fin 8448) (k : Fin 128) (s : Fin 512) (hs : s.val = t.val / 33 * 128 + k.val) :
    iblk m c 1 t (ix2 n k) = m ((c : Thread nD τ).loc main_arg1) (ix2 n s) := by
  obtain ⟨-, -, -, -, e0, e1, -⟩ := places t
  show V m c main_arg1 (((cfg0.win 1).blk t).view.emb (ix2 n k)) = _
  rw [V_main_arg1]
  congr 1
  funext a
  apply Fin.ext
  match a with
  | ⟨0, _⟩ => show win0_1.index t (0 : Fin 2) * 8448 + 1 * n.val = n.val; omega
  | ⟨1, _⟩ => show win0_1.index t (1 : Fin 2) * 128 + 1 * k.val = s.val; omega

theorem values_at (t : Fin cfg0.N) (b : Fin 33) (d : Fin 128) (r : Fin 256) (h : Fin 4) (hh : h.val = t.val / 33) :
    iblk m c 2 t (ix4 (0 : Fin 1) b d r) = m ((c : Thread nD τ).loc main_arg2) (ix4 h b d r) := by
  obtain ⟨-, -, -, -, -, -, e0, e1, e2, e3, -⟩ := places t
  show V m c main_arg2 (((cfg0.win 2).blk t).view.emb (ix4 (0 : Fin 1) b d r)) = _
  rw [V_main_arg2]
  congr 1
  funext a
  apply Fin.ext
  match a with
  | ⟨0, _⟩ => show win0_2.index t (0 : Fin 4) * 1 + 1 * 0 = h.val; omega
  | ⟨1, _⟩ => show win0_2.index t (1 : Fin 4) * 33 + 1 * b.val = b.val; omega
  | ⟨2, _⟩ => show win0_2.index t (2 : Fin 4) * 128 + 1 * d.val = d.val; omega
  | ⟨3, _⟩ => show win0_2.index t (3 : Fin 4) * 256 + 1 * r.val = r.val; omega

/-- The result array, entry by entry: the block of the point that covers the entry. -/
theorem result_at (t : Fin cfg0.N) (r : Fin 256) (q : Fin 512) (R : Fin 8448) (s : Fin 2048)
    (hR : R.val = t.val % 33 * 256 + r.val) (hs : s.val = t.val / 33 * 512 + q.val) :
    (dats m 0 c).arrAt 3 cfg0.N (ix2 R s)
      = block (last (grid0.coords t) (iblk m c 0 t) (iblk m c 1 t) (iblk m c 2 t)) (ix2 r q) := by
  obtain ⟨-, -, -, -, -, -, -, -, -, -, e0, e1, hf⟩ := places t
  have e : ((cfg0.win 3).blk t).view.emb (ix2 r q) = ix2 R s := by
    funext a
    apply Fin.ext
    match a with
    | ⟨0, _⟩ => show win0_3.index t (0 : Fin 2) * 256 + 1 * r.val = R.val; omega
    | ⟨1, _⟩ => show win0_3.index t (1 : Fin 2) * 512 + 1 * q.val = s.val; omega
  have h := congrFun (block_of m c t hf) (ix2 r q)
  unfold outAt at h
  rw [← e]
  exact h

/-- What the kernel leaves in the result array. -/
theorem kernel_at (R : Fin 8448) (s : Fin 2048) : ((dats m 0 c).arrAt 3 cfg0.N (ix2 R s) : EReal)
    = Cert.Reference5Ideal.Attend.entry (m ((c : Thread nD τ).loc main_arg0)) (m ((c : Thread nD τ).loc main_arg1)) (m ((c : Thread nD τ).loc main_arg2))
      ⟨s.val / 512, by omega⟩ ⟨s.val / 128 % 4, by omega⟩ R ⟨s.val % 128, by omega⟩ := by
  have hN : cfg0.N = 132 := N_0
  have hp : s.val / 512 * 33 + R.val / 256 < cfg0.N := by omega
  have hh : s.val / 512 = (s.val / 512 * 33 + R.val / 256) / 33 := by omega
  have hb : R.val / 256 = (s.val / 512 * 33 + R.val / 256) % 33 := by omega
  have hg : s.val % 512 = 128 * (s.val / 128 % 4) + s.val % 128 := by omega
  have hk : keysOf ((s.val / 512 * 33 + R.val / 256) % 33) = Cert.Reference5Ideal.Attend.keysOf R.val := by
    unfold keysOf Cert.Reference5Ideal.Attend.keysOf
    rw [← hb]
    by_cases h : R.val < 256
    · rw [if_pos h, if_pos (by omega)]
    · rw [if_neg h, if_neg (by omega)]
  refine (result_at m c ⟨_, hp⟩ ⟨R.val % 256, Nat.mod_lt _ (by decide)⟩ ⟨s.val % 512, Nat.mod_lt _ (by decide)⟩ R s
      (by show R.val = (s.val / 512 * 33 + R.val / 256) % 33 * 256 + R.val % 256; omega)
      (by show s.val = (s.val / 512 * 33 + R.val / 256) / 33 * 512 + s.val % 512; omega)).trans
    ((block_at _ _ _ ⟨_, hp⟩ ⟨R.val % 256, Nat.mod_lt _ (by decide)⟩ ⟨s.val / 128 % 4, Nat.mod_lt _ (by decide)⟩ ⟨s.val % 128, Nat.mod_lt _ (by decide)⟩ _ hg).trans ?_)
  have e1 : score (iblk m c 0 ⟨_, hp⟩) (iblk m c 1 ⟨_, hp⟩) (column ⟨s.val / 128 % 4, Nat.mod_lt _ (by decide)⟩ ⟨R.val % 256, Nat.mod_lt _ (by decide)⟩)
      = Cert.Reference5Ideal.Attend.score (m ((c : Thread nD τ).loc main_arg0)) (m ((c : Thread nD τ).loc main_arg1)) ⟨s.val / 512, by omega⟩ ⟨s.val / 128 % 4, by omega⟩ R := by
    funext n
    unfold score Cert.Reference5Ideal.Attend.score
    refine Finset.sum_congr rfl fun k _ => congrArg₂ (fun a b : EReal => a * b) ?_ ?_
    · exact keys_at m c ⟨_, hp⟩ _ k _ (by show s.val / 512 * 128 + k.val = (s.val / 512 * 33 + R.val / 256) / 33 * 128 + k.val; omega)
    · refine (queries_at m c ⟨_, hp⟩ k _ ⟨s.val / 512, by omega⟩ ⟨R.val / 256, by omega⟩ hh hb).trans ?_
      refine congrArg (fun j : Fin 1024 => m ((c : Thread nD τ).loc main_arg0) (ix4 (⟨s.val / 512, by omega⟩ : Fin 4) (⟨R.val / 256, by omega⟩ : Fin 33) k j)) (Fin.ext ?_)
      show 256 * (s.val / 128 % 4) + R.val % 256 = s.val / 128 % 4 * 256 + R.val % 256
      omega
  have e2 : value (iblk m c 2 ⟨_, hp⟩) ⟨s.val % 128, Nat.mod_lt _ (by decide)⟩
      = Cert.Reference5Ideal.Attend.value (m ((c : Thread nD τ).loc main_arg2)) ⟨s.val / 512, by omega⟩ ⟨s.val % 128, by omega⟩ := by
    funext n
    unfold value Cert.Reference5Ideal.Attend.value
    exact values_at m c ⟨_, hp⟩ _ _ _ ⟨s.val / 512, by omega⟩ hh
  unfold Cert.Reference5Ideal.Attend.entry
  rw [← hk, ← e1, ← e2]

/-- Equal arguments, equal results. -/
theorem whole_congr {A A' : FVec Ideal S4x33x128x1024 .bf16} {B B' : FVec Ideal S8448x512 .bf16} {C C' : FVec Ideal S4x33x128x256 .bf16}
    (e : A' = A ∧ B' = B ∧ C' = C) : Cert.Reference5Ideal.Attend.whole A' B' C' = Cert.Reference5Ideal.Attend.whole A B C := by
  obtain ⟨rfl, rfl, rfl⟩ := e
  rfl

/-- The two programs' results agree wherever their arguments do. -/
theorem result_eq : (dats m 0 c).arrAt 3 cfg0.N = Cert.Reference5Ideal.Attend.whole (m ((c : Thread nD τ).loc main_arg0))
    (m ((c : Thread nD τ).loc main_arg1)) (m ((c : Thread nD τ).loc main_arg2)) := by
  funext y
  rw [show y = ix2 (n0 := 8448) (n1 := 2048) (y (0 : Fin 2)) (y (1 : Fin 2)) from eq_ix2 (n0 := 8448) (n1 := 2048) y]
  exact (kernel_at m c _ _).trans (Cert.Reference5Ideal.Attend.whole_at _ _ _ _ _).symm

end Cert.Kernel5Ideal.Attend

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Pre_table_in_range
public import proofs.«01_k».proof.Proof.KernelResult
public import proofs.«01_k».proof.Proof.Slabs
public import proofs.«01_k».proof.Proof.Range
public import proofs.«01_k».proof.Proof.RefValue
public import proofs.«01_k».proof.Proof.Equal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame.Runs
public import proofs.«01_k».proof.Proof.Gen.Kernel5Ideal
public import proofs.«01_k».proof.Proof.Gen.Kernel5Ideal.Frame.Runs
public import proofs.«01_k».proof.Proof.Gen.Reference5Ideal
public import proofs.«01_k».proof.Proof.Gen.Reference5Ideal.Run
public import proofs.«01_k».proof.Proof.Product
public import proofs.«01_k».proof.Proof.Output
public import proofs.«01_k».proof.Proof.Pooling
public import proofs.«01_k».proof.Proof.KernelAttentionFrame
public import proofs.«01_k».proof.Proof.Attention
public import Idealize.ShloMosaic.Adequacy
public import Idealize.ShloMosaic.Init

@[expose] public section

noncomputable section

namespace Cert.Proof

open Idealize.ShloMosaic Idealize.SL.Sem Cert.Kernel

/-- The input projection's kernel runs at the bits. -/
theorem frame_kernel2 : Cert.quiescent_Kernel2 := fun m ρ _ => Cert.Kernel2.Gen.frame m ρ

/-- The input projection's reference runs: it writes no argument and touches no counter. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

/-- The input projection and the plain product end with equal results over the extended reals. -/
theorem algebraic2 : Cert.algebraic_Kernel2Ideal_Reference2Ideal := fun m ρ m' ρ' _ hA =>
  ⟨Cert.Kernel2Ideal.Value.G2 m, Cert.Kernel2Ideal.Value.run m ρ,
    (θ_run Cert.Reference2Ideal.defs _ _).mono (fun _ r c => ⟨(r c).1.trans
      ((congrArg₂ Cert.Kernel2Ideal.Product.product (hA c).1 (hA c).2).trans
        (Cert.Kernel2Ideal.Product.result_eq m c).symm), (r c).2⟩)
      (Cert.Reference2Ideal.Value.run m' ρ')⟩

/-- The output projection's kernel runs at the bits. -/
theorem frame_kernel3 : Cert.quiescent_Kernel3 := fun m ρ _ => Cert.Kernel3.Gen.frame m ρ

/-- The output projection's reference runs: it writes no argument and touches no counter. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

/-- The output projection and its plain form end with equal results over the extended reals. -/
theorem algebraic3 : Cert.algebraic_Kernel3Ideal_Reference3Ideal := fun m ρ m' ρ' _ hA =>
  ⟨Cert.Kernel3Ideal.Value.G6 m, Cert.Kernel3Ideal.Value.run m ρ,
    (θ_run Cert.Reference3Ideal.defs _ _).mono (fun _ r c => ⟨(r c).1.trans ((Cert.Kernel3Ideal.Product.product_congr (hA c)).trans
        (Cert.Kernel3Ideal.Product.result_eq m c).symm), (r c).2⟩)
      (Cert.Reference3Ideal.Value.run m' ρ')⟩

/-- The pooling projection's kernel runs at the bits. -/
theorem frame_kernel4 : Cert.quiescent_Kernel4 := fun m ρ _ => Cert.Kernel4.Gen.frame m ρ

/-- The pooling projection's reference runs: it writes no argument and touches no counter. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

/-- The pooling projection and its plain form end with equal results over the extended reals. -/
theorem algebraic4 : Cert.algebraic_Kernel4Ideal_Reference4Ideal := fun m ρ m' ρ' _ hA =>
  ⟨fun c => (Cert.Kernel4Ideal.Gen.dats m 0 c).arrAt 5 _, Cert.Kernel4Ideal.Value.run_blocks m ρ,
    (θ_run Cert.Reference4Ideal.defs _ _).mono (fun _ r c => ⟨(r c).1.trans ((Cert.Kernel4Ideal.Product.product_congr (hA c)).trans
        (Cert.Kernel4Ideal.Product.result_eq m c).symm), (r c).2⟩)
      (Cert.Reference4Ideal.Value.run m' ρ')⟩

theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run m ρ)

/-- The attention and its plain form end with equal results over the extended reals. -/
theorem algebraic5 : Cert.algebraic_Kernel5Ideal_Reference5Ideal := fun m ρ m' ρ' _ hA =>
  ⟨fun c => (Cert.Kernel5Ideal.Run.dats m 0 c).arrAt 3 _, Cert.Kernel5Ideal.Run.run_result m ρ,
    (θ_run Cert.Reference5Ideal.defs _ _).mono (fun _ r c => ⟨(r c).1.trans ((Cert.Reference5Ideal.Attend.result_whole m' c).trans
        ((Cert.Kernel5Ideal.Attend.whole_congr (hA c)).trans (Cert.Kernel5Ideal.Attend.result_eq m c).symm)), (r c).2⟩)
      (Cert.Reference5Ideal.Value.run m' ρ')⟩

theorem claim : Cert.Claim := ⟨Cert.Kernel.Gen.facts, Cert.Reference.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_table_in_range.Gen.facts,
  fun m ρ h => Cert.Kernel.Run.frame m ρ (Cert.Kernel.Run.good_of_pre m h), fun m ρ _ => Cert.Reference.Gen.frame m ρ,
  frame_kernel2, fun m ρ _ => Cert.Kernel2Ideal.Gen.frame m ρ, frame_reference2,
  frame_kernel3, fun m ρ _ => Cert.Kernel3Ideal.Gen.frame m ρ, frame_reference3,
  frame_kernel4, fun m ρ _ => Cert.Kernel4Ideal.Gen.frame m ρ, frame_reference4,
  fun m ρ _ => Cert.Kernel5.Run.frame m ρ, fun m ρ _ => Cert.Kernel5Ideal.Run.frame m ρ, frame_reference5,
  fun m ρ m' ρ' h hA => ⟨Cert.Kernel.Run.result m (Cert.Kernel.Run.good_of_pre m h),
    (θ_run defs _ _).mono (fun _ r => r.1) (Cert.Kernel.Run.run_result m ρ (Cert.Kernel.Run.good_of_pre m h)),
    (θ_run Cert.Reference.defs _ _).mono (fun _ r c => ⟨(r c).1.trans (Cert.Equal.result_eq (Cert.Kernel.Run.good_of_pre m h) c
      ⟨(hA c).1, (hA c).2.1, (hA c).2.2.1, (hA c).2.2.2.1, (hA c).2.2.2.2.1, (hA c).2.2.2.2.2⟩), (r c).2⟩)
      (Cert.Reference.Run.run_result m' ρ')⟩,
  trivial, algebraic2, trivial, algebraic3, trivial, algebraic4, trivial, algebraic5⟩

end Cert.Proof

end
